-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x64 : Shape := ⟨3, ![8, 1024, 64]⟩
abbrev S64x8192 : Shape := ⟨2, ![64, 8192]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩
abbrev S8192x128 : Shape := ⟨2, ![8192, 128]⟩
abbrev S256 : Shape := ⟨1, ![256]⟩
abbrev S256x128 : Shape := ⟨2, ![256, 128]⟩
abbrev S1x1 : Shape := ⟨2, ![1, 1]⟩
abbrev S512x64 : Shape := ⟨2, ![512, 64]⟩
abbrev S1x512x64 : Shape := ⟨3, ![1, 512, 64]⟩
abbrev S1 : Shape := ⟨1, ![1]⟩
abbrev S1x1x1 : Shape := ⟨3, ![1, 1, 1]⟩

abbrev nBuf : Table → Nat
  | .hbm => 34
  | .local .tc .vmem => 7
  | .local .scVector .vmem => 2
  | _ => 0

abbrev bufTy : (tb : Table) → Fin (nBuf tb) → BufTy
  | .hbm, ⟨0, _⟩ => ⟨S8x1024x64, .f32⟩
  | .hbm, ⟨1, _⟩ => ⟨S64x8192, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S_, .f32⟩
  | .hbm, ⟨21, _⟩ => ⟨S_, .i32⟩
  | .hbm, ⟨22, _⟩ => ⟨S8192, .f32⟩
  | .hbm, ⟨23, _⟩ => ⟨S8192, .i32⟩
  | .hbm, ⟨24, _⟩ => ⟨S8192x64, .f32⟩
  | .hbm, ⟨25, _⟩ => ⟨S_, .i32⟩
  | .hbm, ⟨26, _⟩ => ⟨S_, .f32⟩
  | .hbm, ⟨27, _⟩ => ⟨S8192x128, .f32⟩
  | .hbm, ⟨28, _⟩ => ⟨S8192x128, .f32⟩
  | .hbm, ⟨29, _⟩ => ⟨S8192x64, .f32⟩
  | .hbm, ⟨30, _⟩ => ⟨S8192x64, .f32⟩
  | .hbm, ⟨31, _⟩ => ⟨S1x1, .f32⟩
  | .hbm, ⟨32, _⟩ => ⟨S8x1024x64, .f32⟩
  | .hbm, ⟨33, _⟩ => ⟨S_, .f32⟩
  | .local .tc .vmem, ⟨0, _⟩ => ⟨S512x64, .f32⟩
  | .local .tc .vmem, ⟨1, _⟩ => ⟨S512x64, .f32⟩
  | .local .tc .vmem, ⟨2, _⟩ => ⟨S512x64, .f32⟩
  | .local .tc .vmem, ⟨3, _⟩ => ⟨S512x64, .f32⟩
  | .local .tc .vmem, ⟨4, _⟩ => ⟨S512x64, .f32⟩
  | .local .tc .vmem, ⟨5, _⟩ => ⟨S512x64, .f32⟩
  | .local .tc .vmem, ⟨6, _⟩ => ⟨S1x1, .f32⟩
  | .local .scVector .vmem, ⟨0, _⟩ => ⟨S256, .i32⟩
  | .local .scVector .vmem, ⟨1, _⟩ => ⟨S256x128, .f32⟩
  | _, _ => ⟨S8x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20 : Ref sig .tc := ⟨.hbm, 32, rfl⟩
abbrev main_v21 : Ref sig .tc := ⟨.hbm, 33, rfl⟩
abbrev main_v16_scv : Ref sig .scVector := ⟨.hbm, 27, rfl⟩
abbrev main_v14_scv : Ref sig .scVector := ⟨.hbm, 23, rfl⟩
abbrev main_v17_scv : Ref sig .scVector := ⟨.hbm, 28, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1024x64 : Shape := ⟨3, ![8, 1024, 64]⟩
abbrev S64x8192 : Shape := ⟨2, ![64, 8192]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩
abbrev S8x1024 : Shape := ⟨2, ![8, 1024]⟩
abbrev S8x1024x1 : Shape := ⟨3, ![8, 1024, 1]⟩
abbrev S1 : Shape := ⟨1, ![1]⟩
abbrev S1x1x1 : Shape := ⟨3, ![1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S64x8192, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S_, .f32⟩
  | .hbm, ⟨21, _⟩ => ⟨S_, .i32⟩
  | .hbm, ⟨22, _⟩ => ⟨S8192, .f32⟩
  | .hbm, ⟨23, _⟩ => ⟨S8192, .i32⟩
  | .hbm, ⟨24, _⟩ => ⟨S8x1024, .i32⟩
  | .hbm, ⟨25, _⟩ => ⟨S8192x64, .f32⟩
  | .hbm, ⟨26, _⟩ => ⟨S_, .i32⟩
  | .hbm, ⟨27, _⟩ => ⟨S8x1024, .i32⟩
  | .hbm, ⟨28, _⟩ => ⟨S8x1024, .i1⟩
  | .hbm, ⟨29, _⟩ => ⟨S_, .i32⟩
  | .hbm, ⟨30, _⟩ => ⟨S8x1024, .i32⟩
  | .hbm, ⟨31, _⟩ => ⟨S8x1024, .i32⟩
  | .hbm, ⟨32, _⟩ => ⟨S8x1024, .i32⟩
  | .hbm, ⟨33, _⟩ => ⟨S8x1024x1, .i32⟩
  | .hbm, ⟨34, _⟩ => ⟨S1, .i32⟩
  | .hbm, ⟨35, _⟩ => ⟨S_, .i32⟩
  | .hbm, ⟨36, _⟩ => ⟨S8x1024x1, .i32⟩
  | .hbm, ⟨37, _⟩ => ⟨S8x1024x1, .i1⟩
  | .hbm, ⟨38, _⟩ => ⟨S1x1x1, .i32⟩
  | .hbm, ⟨39, _⟩ => ⟨S8x1024x1, .i32⟩
  | .hbm, ⟨40, _⟩ => ⟨S8x1024x1, .i1⟩
  | .hbm, ⟨41, _⟩ => ⟨S8x1024x1, .i1⟩
  | .hbm, ⟨42, _⟩ => ⟨S_, .i1⟩
  | .hbm, ⟨43, _⟩ => ⟨S8x1024, .i1⟩
  | .hbm, ⟨44, _⟩ => ⟨S8x1024x64, .f32⟩
  | .hbm, ⟨45, _⟩ => ⟨S8x1024x64, .i1⟩
  | .hbm, ⟨46, _⟩ => ⟨S_, .f32⟩
  | .hbm, ⟨47, _⟩ => ⟨S8x1024x64, .f32⟩
  | .hbm, ⟨48, _⟩ => ⟨S8x1024x64, .f32⟩
  | .hbm, ⟨49, _⟩ => ⟨S8x1024x64, .f32⟩
  | .hbm, ⟨50, _⟩ => ⟨S8x1024x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x1024x64, .f32⟩
  | .hbm, ⟨56, _⟩ => ⟨S8x1024x64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8x1024x64, .f32⟩
  | .hbm, ⟨65, _⟩ => ⟨S8x1024x64, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Proof.Setup.lean ====
/-
  THE SETTING every part of the proof shares: the program as the launch theorem sees it (the SparseCore call over the
  labels of the one TensorCore pipeline), the ghost state (the handshakes' rounds, the pipeline's staging cells, the
  transfers' counters), and the value the SparseCore call leaves: row `r` of the result is the row of the table that
  word `r` of the index list names (`gathered`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.ShareLeaves
public import Idealize.ShloMosaic.Lib.GluedParts
public import Idealize.ShloMosaic.Lib.Pipeline.Kit
public import Idealize.ShloMosaic.Lib.Pipeline.RegionsLoop
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Vq

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open scoped Idealize.SL.BI
open Idealize.ShloMosaic.Rounds

variable {F : FTy → Type}

/-- The labels below the SparseCore call's own: the kernel bodies' and the pipeline's. -/
abbrev ΛP [FloatOps F] : Labels := Pipeline.Sig Λ₀ (Fin 1) fun p => (pcfgs (F := F) p).Adm
/-- The SparseCore call. -/
abbrev K [FloatOps F] : SparseCore.Cfg τ sig (ΛP (F := F)) 1 := sc (F := F)
/-- What the labels below the call's own mean. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero [FloatOps F] : (K (F := F)).nSub 0 = 16 := rfl
theorem nCore_zero [FloatOps F] : (K (F := F)).nCore 0 = 2 := rfl

/-- What the launch theorem asks of the call's semaphores and of its two bodies. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The handshakes' rounds, the pipeline's staging cells, the transfers' counters. -/
abbrev UU : Type := UH × (UR sig nD τ × Counters)

local notation "𝕄" => MT nD τ sig (HIx 1) (Elt F) ℕ UU ℕ

/-- The handshakes' component. -/
abbrev EH : Emb UH (MT nD τ sig (HIx 1) (Elt F) ℕ UU ℕ) := embL
/-- The pipeline's component. -/
def EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ 𝕄) := by
  unfold EP embR; infer_instance

/-! ## The value of the SparseCore call -/

/-- The table's rows that the words of the index list name: row `r` of the result is row `I r` of the table (a word
    taken below 8192, the table's number of rows: every word of the list this program makes is). -/
def gathered (tab : S8192x128.Idx → Elt F .f32) (I : S8192.Idx → Elt F .i32) : S8192x128.Idx → Elt F .f32 :=
  fun x => tab fun
    | ⟨0, _⟩ => ⟨(I fun | ⟨0, _⟩ => x 0).toNat % 8192, Nat.mod_lt _ (by decide)⟩
    | ⟨1, _⟩ => x 1

end Cert.Proof.Vq

end
-- ==== Proof.Tile.lean ====
/-
  ONE TASK of the SparseCore call, on vector subcore `s` of SparseCore `c`: its 256 words of the index list fetched to
  its scratch, the 256 rows of the table they name streamed to its scratch (an indirect gather), those rows written out
  to its 256 rows of the result. The task is worker `2 s + c` of 32; stated here with what it is handed — its part of the
  list, a 32nd share of the table, its part of the result — and what it gives back, the part of the result at the rows
  of `gathered`.
-/
module

public import proofs.«01_k».proof.Proof.Setup

@[expose] public section

noncomputable section

namespace Cert.Proof.Vq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

/-- The index list, the table and the result of the call, on device `d`. -/
abbrev iLoc (d : Dev nD) : Loc nD τ sig := (SparseCore.T d).loc main_v14
abbrev xLoc (d : Dev nD) : Loc nD τ sig := (SparseCore.T d).loc main_v16
abbrev oLoc (d : Dev nD) : Loc nD τ sig := (SparseCore.T d).loc main_v17

local notation "iV" => (Memref.whole Cert.KernelIdeal.main_v14_scv : Memref Cert.KernelIdeal.sig Kind.scVector Space.hbm Cert.KernelIdeal.S8192 EltTy.i32)
local notation "xV" => (Memref.whole Cert.KernelIdeal.main_v16_scv : Memref Cert.KernelIdeal.sig Kind.scVector Space.hbm Cert.KernelIdeal.S8192x128 EltTy.f32)
local notation "oV" => (Memref.whole Cert.KernelIdeal.main_v17_scv : Memref Cert.KernelIdeal.sig Kind.scVector Space.hbm Cert.KernelIdeal.S8192x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

/-! ## The workers' parts -/

theorem idiv : 32 ∣ S8192.size 0 := ⟨256, rfl⟩
theorem odiv : 32 ∣ S8192x128.size 0 := ⟨256, rfl⟩
abbrev irow (w : Fin 32) : Rect S8192 := Rect.part (s := S8192) (a₀ := 0) idiv w
abbrev orow (w : Fin 32) : Rect S8192x128 := Rect.part (s := S8192x128) (a₀ := 0) odiv w
/-- Worker `w`'s words of the index list, and its rows of the result. -/
abbrev iRowSet (w : Fin 32) : Finset S8192.Idx := ((iV).view.slice (irow w)).set
abbrev oRowSet (w : Fin 32) : Finset S8192x128.Idx := ((oV).view.slice (orow w)).set
/-- Worker `w`'s share of the table. -/
abbrev xq (w : Fin 32) : PosShare TreeShare := leaf 5 fullShare w

/-- The worker on subcore `s` of SparseCore `c`. -/
def wk (c : Fin 2) (s : Fin 16) : Fin 32 := ⟨2 * s.val + c.val, by omega⟩

section Own

variable (fi : (d : Dev nD) → Buf (Elt F) (iLoc d)) (fx : (d : Dev nD) → Buf (Elt F) (xLoc d)) (fo : (d : Dev nD) → Buf (Elt F) (oLoc d))

abbrev iRowPts (d : Dev nD) (w : Fin 32) : sProp 𝕄 := iLoc d ↦[iRowSet w]{fullShare} fi d
abbrev xShPts (d : Dev nD) (w : Fin 32) : sProp 𝕄 := xLoc d ↦{xq w} fx d
abbrev oRowPts (d : Dev nD) (w : Fin 32) (f : Buf (Elt F) (oLoc d)) : sProp 𝕄 := oLoc d ↦[oRowSet w]{fullShare} f

/-- What a worker is handed. -/
abbrev handed (d : Dev nD) (w : Fin 32) : sProp 𝕄 := iprop(iRowPts fi d w ∗ xShPts fx d w ∗ oRowPts d w (fo d))
/-- What a worker gives back: its rows of the result at the rows of `gathered`. -/
abbrev returned (d : Dev nD) (w : Fin 32) : sProp 𝕄 := iprop(iRowPts fi d w ∗ xShPts fx d w ∗ oRowPts d w (gathered (F := F) (fx d) (fi d)))

end Own

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker at a point of the call's grid. -/
abbrev wL (L : grid0.Coords) : Fin 32 := wk (Fin.cast bound_zero (L 0)) (Fin.cast bound_one (L 1))

abbrev irowK (L : grid0.Coords) : Rect S8192 := Rect.unit (s := S8192) (k0_off1 L) S256.size (k0_off1_inb L)
abbrev orowK (L : grid0.Coords) : Rect S8192x128 := Rect.unit (s := S8192x128) (k0_off2 L) S256x128.size (k0_off2_inb L)
/-- The worker's words of the list, its rows of the result, and the whole table, as the task addresses them. -/
abbrev iRowK (L : grid0.Coords) : Memref sig .scVector .hbm S256 .i32 := (iV).slice (irowK L) (fun _ => rfl)
abbrev oRowK (L : grid0.Coords) : Memref sig .scVector .hbm S256x128 .f32 := (oV).slice (orowK L) (fun _ => rfl)
abbrev xAllK : Memref sig .scVector .hbm S8192x128 .f32 := (xV).slice (Rect.unit (s := S8192x128) ![0, 0] S8192x128.size inb_S8192x128_S8192x128_0_0) (fun _ => rfl)

theorem irowK_eq : irowK L = irow (wL L) := by
  unfold irowK irow Rect.part Rect.block
  congr 1 <;> funext a
  · rw [k0_off1_eq]
    match a with
    | 0 =>
      show 512 * (L 1).val + 256 * (L 0).val = (2 * (L 1).val + (L 0).val) * 256
      omega
  · match a with
    | 0 => simp [Shape.partSize]
theorem orowK_eq : orowK L = orow (wL L) := by
  unfold orowK orow Rect.part Rect.block
  congr 1 <;> funext a
  · rw [k0_off2_eq]
    match a with
    | 0 =>
      show 512 * (L 1).val + 256 * (L 0).val = (2 * (L 1).val + (L 0).val) * 256
      omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-! ## The task's own semaphores and scratch -/

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The values -/

variable (fi : (d : Dev nD) → Buf (Elt F) (iLoc d)) (fx : (d : Dev nD) → Buf (Elt F) (xLoc d)) (fo : (d : Dev nD) → Buf (Elt F) (oLoc d))

/-- The words the fetch lands in the scratch are the worker's words of the list, each below the number of rows. -/
theorem inb_of_ok (hok : ∀ j, (fi d j).toNat < 8192) (fs : Buf (Elt F) ((V d (cV L) (jV L)).loc cc0_scratch0)) (pay : S256.Idx → Elt F .i32)
    (hpay : pay = (iRowK L).view.read (Elt F) (fi d)) :
    ∀ x, ((sV).view.read (Elt F) (View.write (Elt F) (sV).view fs pay Finset.univ) x).toNat < S8192x128.size gathers_S8192x128_S256x128.axis := by
  subst hpay; intro x
  rw [View.write_whole_univ]
  simp only [Memref.view_whole, View.read_whole]
  rw [show ∀ j, (iRowK L).view.read (Elt F) (fi d) j = fi d ((iRowK L).view.emb j) from fun j => (View.read_apply _ _).trans (cast_eq _ _)]
  exact hok _

/-- What the task writes out is the worker's rows of `gathered`. -/
theorem out_eq (hok : ∀ j, (fi d j).toNat < 8192) (pay : S256.Idx → Elt F .i32) (hpay : pay = (iRowK L).view.read (Elt F) (fi d))
    (hin : ∀ x, (pay x).toNat < S8192x128.size gathers_S8192x128_S256x128.axis) (out : S256x128.Idx → Elt F .f32)
    (hout : out = SparseCore.gatherPayload gathers_S8192x128_S256x128 ((xAllK).view.read (Elt F) (fx d))
      (SparseCore.rows (o := S256x128.size gathers_S8192x128_S256x128.axis') pay rfl hin)) (f : Buf (Elt F) (oLoc d)) :
    ∀ i ∈ oRowSet (wL L), ((oRowK L).view.writes (Elt F) f [⟨Rect.whole S256x128, out⟩]) i = gathered (F := F) (fx d) (fi d) i := by
  intro i hi
  rw [← set_oRowK] at hi
  obtain ⟨x, -, rfl⟩ := Finset.mem_map.mp hi
  have hemb : ((oRowK L).view.slice (Rect.whole S256x128)).emb x = (oRowK L).view.emb x := by
    rw [View.emb_slice]; exact congrArg (oRowK L).view.emb (Rect.emb_whole_apply S256x128 x)
  have hwr : ((oRowK L).view.writes (Elt F) f [⟨Rect.whole S256x128, out⟩]) ((oRowK L).view.emb x) = out x := by
    have h := View.write_emb_of_mem (v := (oRowK L).view.slice (Rect.whole S256x128)) (Val := Elt F) f out (Finset.mem_univ x)
    rw [hemb] at h
    exact h.trans (cast_eq _ _)
  rw [hwr]
  subst hpay hout
  have hx0 : (x 0).val < 256 := (x 0).isLt
  unfold gathered SparseCore.gatherPayload
  refine ((View.read_apply _ _).trans (cast_eq _ _)).trans (congrArg (fx d) (funext fun a => Fin.ext ?_))
  have hrow : ((iRowK L).view.emb (S256.rowMajor.symm (Fin.cast (rfl : 256 = S256.numel) (x 0)))) = (fun | ⟨0, _⟩ => (oRowK L).view.emb x 0 : S8192.Idx) := by
    funext b
    match b with
    | ⟨0, _⟩ =>
      refine Fin.ext ?_
      show (irowK L).off 0 + 1 * ((S256.rowMajor.symm (Fin.cast _ (x 0))) 0).val = (orowK L).off 0 + 1 * (x 0).val
      have h1 : ((S256.rowMajor.symm (Fin.cast (rfl : 256 = S256.numel) (x 0))) 0).val = (x 0).val := by
        rw [← Shape.rowMajor_val_one, Equiv.apply_symm_apply]; rfl
      have h2 : k0_off1 L 0 = k0_off2 L 0 := by rw [k0_off1_eq, k0_off2_eq]; rfl
      exact congrArg₂ (· + ·) h2 (congrArg (1 * ·) h1)
  match a with
  | ⟨0, _⟩ =>
    show 0 + 1 * ((gathers_S8192x128_S256x128.idx _ x) gathers_S8192x128_S256x128.axis).val = (fi d _).toNat % 8192
    rw [Shape.Gathers.idx_axis, Nat.mod_eq_of_lt (hok _), Nat.zero_add, Nat.one_mul]
    unfold SparseCore.rows
    show ((iRowK L).view.read (Elt F) (fi d) _).toNat = _
    rw [show ∀ j, (iRowK L).view.read (Elt F) (fi d) j = fi d ((iRowK L).view.emb j) from fun j => (View.read_apply _ _).trans (cast_eq _ _)]
    exact congrArg (fun j => (fi d j).toNat) hrow
  | ⟨1, h⟩ =>
    show 0 + 1 * ((gathers_S8192x128_S256x128.idx _ x) ⟨1, h⟩).val = (orowK L).off 1 + 1 * (x 1).val
    rw [Shape.Gathers.idx_of_ne _ _ _ _ (Nat.one_ne_zero)]
    show _ = k0_off2 L 1 + 1 * (x 1).val
    rw [k0_off2_eq]; rfl

/-! ## The run -/

variable [FloatOps F]

set_option maxHeartbeats 4000000 in
/-- The task on vector subcore `(L 0, L 1)` of device `d`: the index fetch and its wait, the indirect gather and its
    wait, the write-out and its wait. -/
theorem tile_body (hF : (K (F := F)).Facts) (hok : ∀ d j, (fi d j).toNat < 8192) (O : CellTallies nD τ sig (HIx 1)) (W : Waits sig (HIx 1)) (hO : ∀ g, O g none = 0) :
    iprop(levAts (K (F := F)).L (K (F := F)).lev ∗ emp ∗ handed fi fx fo d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L xV (Memref.isWhole_whole _) iV (Memref.isWhole_whole _) oV (Memref.isWhole_whole _)
            sV (Memref.isWhole_whole _) rV (Memref.isWhole_whole _) cc0_scratch2 cc0_scoped0 cc0_scoped1)
          fun _ => iprop(returned fi fx d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the indirect gather: a share of the table, the row scratch, the list's scratch and the semaphore handed in
  ihave Hxs := (pointsTo_split_subset (q := xq (wL L)) (f := fx d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 d L fi) Finset.univ : sProp 𝕄)
      = (sV).view.loc (V d (cV L) (jV L)) ↦[(sV).view.set]{fullShare} View.write (Elt F) (sV).view fs (tile_body.sl.dma0 d L fi) Finset.univ
      by rw [hss])) $$ Hs'
  have hN : ∀ h : S8192x128.Gathers 0 S256x128, ∑ j, ((rV).slice (S256x128.rowRect h.axis' j) (S256x128.stride_rowRect h.axis' j)).view.dmaCredit
      = (rV).view.dmaCredit := by decide
  iapply (SparseCore.wp_indirectGatherLocal countersEmb 𝒱₀ (V d (cV L) (jV L)) none (hg := gathers_S8192x128_S256x128) (default : HIx 1)
      (rV).view.dmaCredit (hN _) (by decide) (inb_of_ok d L fi (hok d) fs _ rfl)) $$ [Hxs Hr'' Hs'' HsemG]
  · isplitl [Hxs]; · iexact Hxs
    isplitl [Hr'']; · iexact Hr''
    isplitl [Hs'']; · iexact Hs''
    iexact HsemG
  iintro Hfl
  sl_exec
  -- its wait: the row scratch written with the gathered rows, the share and the list's scratch back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemG, HO⟩
  ihave Hx' := (pointsTo_split_subset (q := xq (wL L)) (f := fx d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    ihave Ho2 := (Entails.of_eq (pts_oRowK (F := F) d L _)) $$ Ho'
    iapply (Entails.of_eq (pointsTo_congr (out_eq d L fi fx (hok d) _ (by rw [View.write_whole_univ]; exact View.read_whole _ _) (inb_of_ok d L fi (hok d) fs _ rfl) _
      (show tile_body.sl.dma0_1 d L fi fx hok fs fr = _ from (congrArg ((rV).view.read (Elt F)) (View.write_whole_univ _ _ _)).trans (View.read_whole _ _)) _)))
    iexact Ho2
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Vq

end
-- ==== Proof.Call.lean ====
/-
  THE SPARSECORE CALL as the launch theorem sees it: what its handshakes carry (each of the two SparseCores its 16
  workers' parts), the obligation of a task, and the split of the call's three operands — the index list and the result
  cut in 32 parts, the table in 32 shares — among the workers.
-/
module

public import proofs.«01_k».proof.Proof.Tile

@[expose] public section

noncomputable section

namespace Cert.Proof.Vq

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

/-! ## The operands among the workers -/

theorem iRowSet_eq (w : Fin 32) : iRowSet w = (irow w).set := by
  show ((View.whole (main_v14_scv : Ref sig .scVector)).slice (irow w)).set = _
  rw [View.set_slice]; exact Finset.map_refl
theorem oRowSet_eq (w : Fin 32) : oRowSet w = (orow w).set := by
  show ((View.whole (main_v17_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl
theorem xPts_shares (d : Dev nD) (f : Buf (Elt F) (xLoc d)) :
    (xLoc d ↦{fullShare} f : sProp 𝕄) = bigSep Finset.univ fun i : Fin 32 => xLoc d ↦{xq i} f :=
  pointsTo_leaves Finset.univ f 5 fullShare

/-- The 32 workers, by subcore and SparseCore. -/
def wkEquiv : Fin 16 × Fin 2 ≃ Fin 32 := finProdFinEquiv

theorem wkEquiv_apply (s : Fin 16) (c : Fin 2) : wkEquiv (s, c) = wk c s := Fin.ext (Nat.add_comm _ _)

section Split

variable (fi : (d : Dev nD) → Buf (Elt F) (iLoc d)) (fx : (d : Dev nD) → Buf (Elt F) (xLoc d)) (fo : (d : Dev nD) → Buf (Elt F) (oLoc d))

/-- The three operands whole are every worker's parts of them. -/
theorem operands_split (d : Dev nD) :
    (iprop((iLoc d ↦{fullShare} fi d) ∗ (xLoc d ↦{fullShare} fx d) ∗ (oLoc d ↦{fullShare} fo d)) : sProp 𝕄)
      = bigSep Finset.univ fun c : Fin 2 => bigSep Finset.univ fun s : Fin 16 => handed fi fx fo d (wk c s) := by
  rw [iPts_rows, xPts_shares, oPts_rows, ← bigSep_sep', ← bigSep_sep', bigSep_univ_equiv wkEquiv, bigSep_univ_prod, bigSep_univ_comm]
  exact bigSep_congr fun c _ => bigSep_congr fun s _ => by rw [wkEquiv_apply]

end Split

/-! ## What the handshakes carry -/

variable [FloatOps F]
variable (fi : (d : Dev nD) → Buf (Elt F) (iLoc d)) (fx : (d : Dev nD) → Buf (Elt F) (xLoc d)) (fo : (d : Dev nD) → Buf (Elt F) (oLoc d))

/-- The call takes every worker's parts, a SparseCore those of its 16 workers, and brings them back with the result at
    the rows of `gathered`. -/
def P : (K (F := F)).Pay (nD := nD) (Val := Elt F) (Name := ℕ) (U := UU) where
  st := fun q d c => match q with | 0 => bigSep Finset.univ fun s : Fin 16 => handed fi fx fo d (wk (Fin.cast nCore_zero c) s)
  dn := fun q d c => match q with | 0 => bigSep Finset.univ fun s : Fin 16 => returned fi fx d (wk (Fin.cast nCore_zero c) s)
  go := fun q d c i => match q with | 0 => handed fi fx fo d (wk (Fin.cast nCore_zero c) (Fin.cast nSub_zero i))
  td := fun q d c i => match q with | 0 => returned fi fx d (wk (Fin.cast nCore_zero c) (Fin.cast nSub_zero i))
  x := fun _ _ => iprop(emp)

instance handed_storable (d : Dev nD) (w : Fin 32) : BI.Storable (upEmb : UEmb _ 𝕄) (handed fi fx fo d w) :=
  (inferInstance : BI.Storable (upEmb : UEmb _ 𝕄) iprop(iRowPts fi d w ∗ xShPts fx d w ∗ oRowPts d w (fo d)))
instance returned_storable (d : Dev nD) (w : Fin 32) : BI.Storable (upEmb : UEmb _ 𝕄) (returned fi fx d w) :=
  (inferInstance : BI.Storable (upEmb : UEmb _ 𝕄) iprop(iRowPts fi d w ∗ xShPts fx d w ∗ oRowPts d w (gathered (F := F) (fx d) (fi d))))

instance P_storable : (P (F := F) fi fx fo).IsStorable where
  st q d c := match q with
    | 0 => (BI.Storable.bigSep upEmb Finset.univ fun s : Fin 16 => handed fi fx fo d (wk (Fin.cast nCore_zero c) s))
  dn q d c := match q with
    | 0 => (BI.Storable.bigSep upEmb Finset.univ fun s : Fin 16 => returned fi fx d (wk (Fin.cast nCore_zero c) s))
  go q d c i := match q with
    | 0 => handed_storable fi fx fo d (wk (Fin.cast nCore_zero c) (Fin.cast nSub_zero i))
  td q d c i := match q with
    | 0 => returned_storable fi fx d (wk (Fin.cast nCore_zero c) (Fin.cast nSub_zero i))

/-! ## A task's obligation -/

/-- The point of the call's grid at SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          (Memref.whole main_v16_scv) (Memref.isWhole_whole _) (Memref.whole main_v14_scv) (Memref.isWhole_whole _) (Memref.whole main_v17_scv) (Memref.isWhole_whole _)
          (Memref.whole cc0_scratch0) (Memref.isWhole_whole _) (Memref.whole cc0_scratch1) (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : ∀ d j, (fi d j).toNat < 8192) : (K (F := F)).TileObl (D (F := F)) 𝒱 (P fi fx fo) v₀ 0 := by
  intro d c i O W hO _ _
  simp only [show (P (F := F) fi fx fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) fi fx fo hF hok O W hO).trans (wp_mono frame _ _ fun _ => obl_post)

/-! ## The split -/

theorem vecSplit : (K (F := F)).VecSplit' (P fi fx fo) 0 := by
  intro d c
  show (bigSep Finset.univ fun s : Fin 16 => handed fi fx fo d (wk (Fin.cast nCore_zero c) s)) ⊢ |={Set.univ}=> iprop(
      (bigSep Finset.univ fun s : Fin 16 => handed fi fx fo d (wk (Fin.cast nCore_zero c) s))
      ∗ ((bigSep Finset.univ fun s : Fin 16 => returned fi fx d (wk (Fin.cast nCore_zero c) s))
          -∗ (bigSep Finset.univ fun s : Fin 16 => returned fi fx d (wk (Fin.cast nCore_zero c) s))))
  iintro H; imodintro
  isplitl [H]; · iexact H
  iintro H; iexact H

/-- The call's operands, as the TensorCore hands them over, and as it takes them back. -/
theorem st0_eq (d : Dev nD) : (bigSep Finset.univ fun c : Fin ((K (F := F)).nCore 0) => (P fi fx fo).st 0 d c)
    = iprop((iLoc d ↦{fullShare} fi d) ∗ (xLoc d ↦{fullShare} fx d) ∗ (oLoc d ↦{fullShare} fo d)) :=
  (operands_split fi fx fo d).symm
theorem dn0_eq (d : Dev nD) : (bigSep Finset.univ fun c : Fin ((K (F := F)).nCore 0) => (P fi fx fo).dn 0 d c)
    = iprop((iLoc d ↦{fullShare} fi d) ∗ (xLoc d ↦{fullShare} fx d) ∗ (oLoc d ↦{fullShare} gathered (F := F) (fx d) (fi d))) :=
  (operands_split fi fx (fun d => gathered (F := F) (fx d) (fi d)) d).symm

end Cert.Proof.Vq

end
-- ==== Proof.Body.lean ====
/-
  THE BODY OF THE TENSORCORE CALL at one grid point: from a block of gathered rows `q` and the block of input rows `x`
  it stores `x + (q - x)`, and adds the block's scaled sum of squares of `q - x` to the one-word loss — which the
  first point has set to zero before.
-/
module

public import proofs.«01_k».proof.Proof.Setup
public import Idealize.ShloMosaic.Lib.Pipeline.FrameBody
public import Idealize.ShloMosaic.Lib.Pipeline.Value

@[expose] public section

noncomputable section

namespace Cert.Proof.Vq

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem origin2 : (![0, 0] : Fin 2 → Nat) = fun _ => 0 := funext fun a => by fin_cases a <;> rfl

/-- The block of the output: `x + (q - x)`. -/
abbrev outBlk (q x : Vec F S512x64 .f32) : Vec F S512x64 .f32 := addf x (subf q x)

/-- The zero the first point stores. -/
abbrev zeroLoss : Vec F S1x1 .f32 := broadcast S1x1 (Scalar.ofBits .f32 0x00000000#32)

/-- The loss after a point that found `s`. -/
abbrev lossStep (q x : Vec F S512x64 .f32) (s : Vec F S1x1 .f32) : Vec F S1x1 .f32 := k1_pay5 q x s

/-- The body's question at a point: is it the first? -/
abbrev isFirst (i : grid1.Coords) : Prop :=
  Scalar.cmpi .ne (Scalar.extui (Scalar.cmpi .eq (BitVec.ofNat 32 (i 0).val) 0#32) : BitVec 32) 0#32 = 1#1

variable (c : Dev nD) (i : grid1.Coords)
  (M0 : Memref sig .tc .vmem S512x64 .f32) (h0 : M0.IsWhole) (M1 : Memref sig .tc .vmem S512x64 .f32) (h1 : M1.IsWhole)
  (M2 : Memref sig .tc .vmem S512x64 .f32) (h2 : M2.IsWhole) (M3 : Memref sig .tc .vmem S1x1 .f32) (h3 : M3.IsWhole)
  (q x : Vec F S512x64 .f32) (s : Vec F S1x1 .f32)

/-- The rectangle from the origin with the shape's own sizes holds every index. -/
theorem whole_mem {S : Shape} {off : Fin S.rank → Nat} (h : off = fun _ => 0) (inb : ∀ a, off a + S.size a ≤ S.size a) (y : S.Idx) :
    y ∈ (Rect.unit (s := S) off S.size inb).set := by
  subst h
  rw [Rect.mem_set_unit]
  exact fun a => ⟨Nat.zero_le _, by rw [Nat.zero_add]; exact (y a).isLt⟩

include q x in
/-- What the store of the output's block leaves there. -/
theorem read_outBlk (f : M2.view.ty.Contents (Elt F)) :
    View.read (Elt F) M2.view (M2.view.writes (Elt F) f
        [⟨Rect.unit ![0, 0] S512x64.size inb_S512x64_S512x64_0_0,
            k1_pay3
              (View.readAt (Elt F) M0.view (Rect.unit ![0, 0] S512x64.size inb_S512x64_S512x64_0_0).toLoadRect (h0.unread q))
              (View.readAt (Elt F) M1.view (Rect.unit ![0, 0] S512x64.size inb_S512x64_S512x64_0_0).toLoadRect (h1.unread x))⟩])
      = outBlk q x := by
  rw [View.read_writes_eq_canon _ _ _ fun y => ⟨_, List.mem_cons_self, whole_mem origin2 inb_S512x64_S512x64_0_0 y⟩, View.canon_unit_zero origin2]
  unfold k1_pay3 k1_pay1 k1_pay2
  simp only [View.readAt_eq_ld, h0.read_unread, h1.read_unread, View.ld_unit_zero (S := S512x64) origin2, shapeCast_self]

/-- A later point: the loss found grows by the block's part. -/
theorem body_later (hc : ¬ isFirst i) (E : Set ℕ) (Q : PUnit → sProp 𝕄) :
    iprop(owns (c : Thread nD τ) M0 fullShare q ∗ owns (c : Thread nD τ) M1 fullShare x ∗ (∃ d, owns (c : Thread nD τ) M2 fullShare d) ∗ owns (c : Thread nD τ) M3 fullShare s
        ∗ (iprop(owns (c : Thread nD τ) M0 fullShare q ∗ owns (c : Thread nD τ) M1 fullShare x
              ∗ owns (c : Thread nD τ) M2 fullShare (outBlk q x) ∗ owns (c : Thread nD τ) M3 fullShare (lossStep q x s)) -∗ Q ⟨⟩))
      ⊢ wp frame (wpE (defs₀ (F := F)) 𝒱₀ c none) E (cc1__out_loss_body i M0 h0 M1 h1 M2 h2 M3 h3) Q := by
  simp only [cc1__out_loss_body_eq_skeleton]; unfold cc1__out_loss_body_skel
  unfold owns
  iintro ⟨⟨%f0, %hf0, H0⟩, ⟨%f1, %hf1, H1⟩, ⟨%d2, %f2, -, H2⟩, ⟨%f3, %hf3, H3⟩, Hk⟩
  obtain rfl := h0.eq_unread hf0
  obtain rfl := h1.eq_unread hf1
  obtain rfl := h3.eq_unread hf3
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; swap; · iexact H2
    ipureintro
    exact read_outBlk ..
  iexists _; isplitr; swap; · iexact H3
  ipureintro
  rw [View.read_writes_eq_canon _ _ _ fun y => ⟨_, List.mem_cons_self, whole_mem origin2 inb_S1x1_S1x1_0_0 y⟩, View.canon_unit_zero origin2]
  simp only [View.readAt_eq_ld, h0.read_unread, h1.read_unread, h3.read_unread, View.ld_unit_zero (S := S512x64) origin2,
    View.ld_unit_zero (S := S1x1) origin2]

/-- The first point: the loss is set to zero, then grows by the block's part. -/
theorem body_first (hc : isFirst i) (E : Set ℕ) (Q : PUnit → sProp 𝕄) :
    iprop(owns (c : Thread nD τ) M0 fullShare q ∗ owns (c : Thread nD τ) M1 fullShare x ∗ (∃ d, owns (c : Thread nD τ) M2 fullShare d) ∗ (∃ d, owns (c : Thread nD τ) M3 fullShare d)
        ∗ (iprop(owns (c : Thread nD τ) M0 fullShare q ∗ owns (c : Thread nD τ) M1 fullShare x
              ∗ owns (c : Thread nD τ) M2 fullShare (outBlk q x) ∗ owns (c : Thread nD τ) M3 fullShare (lossStep q x zeroLoss)) -∗ Q ⟨⟩))
      ⊢ wp frame (wpE (defs₀ (F := F)) 𝒱₀ c none) E (cc1__out_loss_body i M0 h0 M1 h1 M2 h2 M3 h3) Q := by
  simp only [cc1__out_loss_body_eq_skeleton]; unfold cc1__out_loss_body_skel
  unfold owns
  iintro ⟨⟨%f0, %hf0, H0⟩, ⟨%f1, %hf1, H1⟩, ⟨%d2, %f2, -, H2⟩, ⟨%d3, %f3, -, H3⟩, Hk⟩
  obtain rfl := h0.eq_unread hf0
  obtain rfl := h1.eq_unread hf1
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; swap; · iexact H2
    ipureintro
    exact read_outBlk ..
  iexists _; isplitr; swap; · iexact H3
  ipureintro
  rw [View.read_writes_eq_canon _ _ _ fun y => ⟨_, List.mem_cons_self, whole_mem origin2 inb_S1x1_S1x1_0_0 y⟩]
  sl_unfold_words
  rw [View.canon_cons_unit_zero (S := S1x1) origin2, View.readCov_unit_zero (S := S1x1) _ origin2]
  simp only [View.readAt_eq_ld, h0.read_unread, h1.read_unread, View.ld_unit_zero (S := S512x64) origin2]
  rfl

end Cert.Proof.Vq

end
-- ==== Proof.Region.lean ====
/-
  THE TENSORCORE CALL over the contents of the buffers it is entered with: from any contents `V` it runs its 16 points
  and leaves the output's array at `x + (q - x)` and the loss's word at the running sum after the last point, every
  other buffer as it was.
-/
module

public import proofs.«01_k».proof.Proof.Body
public import Idealize.ShloMosaic.Lib.Pipeline.ValueKit

@[expose] public section

noncomputable section

namespace Cert.Proof.Vq

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The proof data, at the contents entered with -/

/-- Point `t`'s block of the gathered rows, and of the input rows. -/
abbrev qBlk (c : Dev nD) (t : Fin cfg1.N) : Vec F S512x64 .f32 := ((cfg1.win 0).blk t).view.read (Elt F) (V c main_v18)
abbrev xBlk (c : Dev nD) (t : Fin cfg1.N) : Vec F S512x64 .f32 := ((cfg1.win 1).blk t).view.read (Elt F) (V c main_v0)

/-- The loss after point `n`. -/
def lossAt (c : Dev nD) : (n : ℕ) → n < cfg1.N → Vec F S1x1 .f32
  | 0, h => lossStep (qBlk V c ⟨0, h⟩) (xBlk V c ⟨0, h⟩) zeroLoss
  | n + 1, h => lossStep (qBlk V c ⟨n + 1, h⟩) (xBlk V c ⟨n + 1, h⟩) (lossAt c n (Nat.lt_of_succ_lt h))

/-- The pairs a wait may have recorded before the call: none above the call's level. -/
abbrev lowPairs (c : Dev nD) : Set (SemLoc sig × HIx 1) := {p | (K (F := F)).lev (T c, p.1) p.2 ≤ 8}

/-- The proof data: the arrays at the contents entered with; after the body at a point the inputs' buffers as fetched,
    the output's block, and the loss; nothing owed. -/
def dat (c : Dev nD) : Dat τ (Elt F) (HIx 1) ℕ UU ℕ cfg1 c where
  A w := V c (Pipeline.arrRef spec1 w)
  after w t := match w with
    | ⟨0, _⟩ => qBlk V c t
    | ⟨1, _⟩ => xBlk V c t
    | ⟨2, _⟩ => outBlk (qBlk V c t) (xBlk V c t)
    | ⟨3, _⟩ => lossAt V c t.val t.isLt
  Φ _ := Pipeline.scopedRest (Ix := HIx 1) (Name := ℕ) (U := UU) (Lvl := ℕ) (Val := Elt F) spec1 c
  q _ := fullShare
  owed _ := 0
  recorded _ := lowPairs (F := F) c

theorem after_0 (c : Dev nD) (t : Fin cfg1.N) : (dat V c).after 0 t = qBlk V c t := rfl
theorem after_1 (c : Dev nD) (t : Fin cfg1.N) : (dat V c).after 1 t = xBlk V c t := rfl
theorem after_2 (c : Dev nD) (t : Fin cfg1.N) : (dat V c).after 2 t = outBlk (qBlk V c t) (xBlk V c t) := rfl
theorem after_3 (c : Dev nD) (t : Fin cfg1.N) : (dat V c).after 3 t = lossAt V c t.val t.isLt := rfl

theorem before_0 (c : Dev nD) (t : Fin cfg1.N) (d) : (dat V c).before 0 t d = qBlk V c t := by
  rw [(dat V c).before_fetched 0 t (fetch1_0 t)]; rfl
theorem before_1 (c : Dev nD) (t : Fin cfg1.N) (d) : (dat V c).before 1 t d = xBlk V c t := by
  rw [(dat V c).before_fetched 1 t (fetch1_1 t)]; rfl

/-- A later point finds the loss as the point before left it. -/
theorem before_3 (c : Dev nD) (n : ℕ) (h : n + 1 < cfg1.N) (d) : (dat V c).before 3 ⟨n + 1, h⟩ d = lossAt V c n (Nat.lt_of_succ_lt h) := by
  have hN : cfg1.N = 16 := N_1
  rw [(dat V c).before_out_acc 3 rfl ⟨n + 1, h⟩ (Nat.succ_ne_zero n) (by
    rw [← Bool.not_eq_true]; intro hf
    have := (flush1_3 _).mp hf
    simp only [Nat.add_sub_cancel] at this; omega) (fun _ => rfl) d]
  rfl

/-- Only point 0 is the first. -/
theorem isFirst_iff (t : Fin cfg1.N) : isFirst (grid1.coords t) ↔ t.val = 0 := by
  revert t; decide +kernel

theorem body_row (t : Fin cfg1.N) : defs₀ (F := F) .tc cfg1.body (cfg1.bodyArgs t (cfg1.slots t)) = bodyAt1 t := by
  unfold defs₀; rfl

/-- The body's obligation at every point. -/
theorem body_obligation (c : Dev nD) : BodyObligation (dat V c) (defs₀ (F := F)) 𝒱₀ (none : HIx 1) Set.univ := fun t => by
  rw [bigSep_W1, bigSep_W1, body_row]
  show iprop(_ ∗ _ ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d)))
    ⊢ wp frame (wpE (defs₀ (F := F)) 𝒱₀ c none) Set.univ (bodyAt1 t) fun _ => iprop((dat V c).Φ t.castSucc ∗ (dat V c).owesAt none t.castSucc
      ∗ owns (c : Thread nD τ) (st1_0 t) fullShare (qBlk V c t) ∗ owns (c : Thread nD τ) (st1_1 t) fullShare (xBlk V c t)
      ∗ owns (c : Thread nD τ) (st1_2 t) fullShare (outBlk (qBlk V c t) (xBlk V c t))
      ∗ owns (c : Thread nD τ) (st1_3 t) fullShare (lossAt V c t.val t.isLt))
  simp only [before_0, before_1]
  iintro ⟨HΦ, Howes, ⟨%d0, H0⟩, ⟨%d1, H1⟩, ⟨%d2, H2⟩, ⟨%d3, H3⟩⟩
  rcases t with ⟨_ | n, ht⟩
  · iapply (body_first c (grid1.coords ⟨0, ht⟩) (st1_0 ⟨0, ht⟩) _ (st1_1 ⟨0, ht⟩) _ (st1_2 ⟨0, ht⟩) _ (st1_3 ⟨0, ht⟩) _
      (qBlk V c ⟨0, ht⟩) (xBlk V c ⟨0, ht⟩) ((isFirst_iff _).mpr rfl) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Howes]; · iexact Howes
    isplitl [H0]; · iexact H0
    isplitl [H1]; · iexact H1
    isplitl [H2]; · iexact H2
    iexact H3
  · rw [before_3]
    iapply (body_later c (grid1.coords ⟨n + 1, ht⟩) (st1_0 ⟨n + 1, ht⟩) _ (st1_1 ⟨n + 1, ht⟩) _ (st1_2 ⟨n + 1, ht⟩) _ (st1_3 ⟨n + 1, ht⟩) _
      (qBlk V c ⟨n + 1, ht⟩) (xBlk V c ⟨n + 1, ht⟩) _ (fun h => Nat.succ_ne_zero n ((isFirst_iff _).mp h)) Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Howes]; · iexact Howes
    isplitl [H0]; · iexact H0
    isplitl [H1]; · iexact H1
    isplitl [H2]; · iexact H2
    iexact H3

/-! ## What the arrays end holding -/

/-- The output's array after the call. -/
abbrev outAll (c : Dev nD) : Vec F S8192x64 .f32 := addf (V c main_v0) (subf (V c main_v18) (V c main_v0))
/-- The loss's array after the call. -/
abbrev lossAll (c : Dev nD) : Vec F S1x1 .f32 := lossAt V c 15 (by rw [show cfg1.N = 16 from N_1]; decide)

theorem arr_out (c : Dev nD) : (dat V c).arrAt 2 cfg1.N = outAll V c := by
  refine (dat V c).arrAt_eq_of_covers 2 (outAll V c) (by decide +kernel) fun t hf y => ?_
  rw [after_2]
  rfl

theorem arr_loss (c : Dev nD) : (dat V c).arrAt 3 cfg1.N = lossAll V c := by
  refine (dat V c).arrAt_eq_of_after_last 3 t1_15 (by decide +kernel) (lossAll V c) fun j => ?_
  rw [after_3]
  rfl

/-! ## The call over the thread state -/

/-- The pipelines have one way to be run. -/
abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat V c

/-- What the core owes across the call: nothing, with waits recorded no higher than the SparseCore call's level. -/
abbrev owing (c : Dev nD) : sProp 𝕄 :=
  iprop(∃ W, ⌜(K (F := F)).WBelow (T c) W 8⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The call entered with every unscoped buffer at `V` and left with every one at `Vp`, where `Vp` has the two results
    and agrees with `V` elsewhere; `R` rides along. -/
def reg (R : Dev nD → sProp 𝕄) (hout : ∀ c, Vp c main_v19_0 = outAll V c) (hloss : ∀ c, Vp c main_v19_1 = lossAll V c)
    (hne : ∀ c (b : Ref sig .tc), b ≠ main_v19_0 → b ≠ main_v19_1 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ owing (F := F) c)
  post c := iprop(unscopedBufs c (Vp c) ∗ R c ∗ owing (F := F) c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v18 (by decide) (by decide)).symm
        · exact ((pdats V 0 c).arrAt_in 1 rfl _).trans (hne c main_v0 (by decide) (by decide)).symm
        · exact (arr_out V c).trans (hout c).symm
        · exact (arr_loss V c).trans (hloss c).symm)
      (fun b hb => hne c b (fun h => hb (h ▸ Finset.mem_image.mpr ⟨2, Finset.mem_univ _, rfl⟩))
        fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

end Cert.Proof.Vq

end
-- ==== Proof.ArgRange.lean ====
/-
  THE RANGE OF THE ARGMIN'S WORDS: whatever the distances hold, each word of the index list the program computes lies
  below 8192 — it is one of the positions along the reduced axis, or the initial zero.
-/
module

public import proofs.«01_k».proof.Proof.Setup
public import Idealize.ShloMosaic.PureOps.Reduce

@[expose] public section

noncomputable section

namespace Cert.Proof.Vq

open Cert.KernelIdeal Cert.KernelIdeal.Gen
open Idealize.ShloMosaic Idealize.SL.Sem

variable {F : FTy → Type} [FloatOps F]

/-- The positions along the reduced axis, as the program lists them. -/
abbrev positions : Vec F S8192x8192 .i32 := iotaInDim S8192x8192 32 1

/-- The reducer's index is one of the two it is given. -/
theorem reducer_snd (a b : F .f32 × BitVec 32) :
    (reducer_argmin_f32_i32 a b).2 = a.2 ∨ (reducer_argmin_f32_i32 a b).2 = b.2 := by
  unfold reducer_argmin_f32_i32
  dsimp only
  unfold Scalar.select
  split
  · exact .inl rfl
  · exact .inr rfl

/-- A fold by the reducer keeps its index among those it is given. -/
theorem foldl_snd_lt (n : ℕ) : ∀ (L : List (F .f32 × BitVec 32)) (a : F .f32 × BitVec 32), a.2.toNat < n → (∀ p ∈ L, p.2.toNat < n) →
    (L.foldl reducer_argmin_f32_i32 a).2.toNat < n
  | [], _, ha, _ => ha
  | p :: L, a, ha, hL => by
    rw [List.foldl_cons]
    refine foldl_snd_lt n L _ ?_ fun p' h => hL p' (List.mem_cons_of_mem _ h)
    rcases reducer_snd a p with h | h <;> rw [h]
    · exact ha
    · exact hL p List.mem_cons_self

theorem positions_lt (x : S8192x8192.Idx) : ((positions (F := F)) x).toNat < 8192 := by
  have h : (x 1).val < 8192 := (x 1).isLt
  show (BitVec.ofNat 32 (x 1).val).toNat < 8192
  rw [BitVec.toNat_ofNat]
  exact (Nat.mod_le _ _).trans_lt h

/-- An arg-reduction by the reducer, of any shape, over words below `n` from an initial word below `n`, ends below `n`. -/
theorem argReduce_lt {s t u : Shape} {axes : List (Fin s.rank)} (n : ℕ) (x : Vec F s .f32) (y : Vec F s .i32)
    (ix : Vec F u .f32) (iy : Vec F u .i32) (h : s.ReducesTo axes t) (hu : 0 < u.numel)
    (hy : ∀ a, (y a).toNat < n) (hi : ∀ a, (iy a).toNat < n) (j : t.Idx) :
    (Host.argReduce reducer_argmin_f32_i32 x y ix iy h hu j).2.toNat < n := by
  have hfib : ∀ p ∈ Host.argReduceFiber x y h j, p.2.toNat < n := by
    intro p hp
    unfold Host.argReduceFiber at hp
    obtain ⟨k, -, rfl⟩ := List.mem_map.mp hp
    exact hy _
  by_cases hj : (Host.argReduceNaNs x y h j).length ≤ 1
  · rw [Host.argReduce_apply_eq_reduce2 _ _ _ _ _ _ _ _ hj, Host.reduce2_eq_foldl_fiber]
    exact foldl_snd_lt n _ _ (hi _) hfib
  · exact hfib _ (List.mem_of_mem_filter (Host.argReduce_mem_nans _ _ _ _ _ _ hu j (by omega)))

theorem zeroWord_lt (a : S_.Idx) : ((constantI S_ 32 0#32) a).toNat < 8192 := by
  unfold constantI
  rw [BitVec.toNat_ofNat]; omega

/-- The index list of a list of distances, of the positions, and of the two initial values. -/
def argFn (x : Vec F S8192x8192 .f32) (y : Vec F S8192x8192 .i32) (u : Vec F S_ .f32) (v : Vec F S_ .i32) : Vec F S8192 .i32 :=
  fun j => (Host.argReduce reducer_argmin_f32_i32 x y u v reducesTo_S8192x8192_S8192_d1 h_S_ j).2

theorem argFn_eq : argFn (F := F) = fun x y u v j =>
    (Host.argReduce reducer_argmin_f32_i32 x y u v reducesTo_S8192x8192_S8192_d1 h_S_ j).2 := rfl

theorem argFn_lt (x : Vec F S8192x8192 .f32) (y : Vec F S8192x8192 .i32) (u : Vec F S_ .f32) (v : Vec F S_ .i32)
    (hy : ∀ a, (y a).toNat < 8192) (hi : ∀ a, (v a).toNat < 8192) (j : S8192.Idx) : (argFn x y u v j).toNat < 8192 := by
  rw [argFn_eq]
  exact argReduce_lt (F := F) (s := S8192x8192) (t := S8192) (u := S_) (axes := [1]) 8192 x y u v reducesTo_S8192x8192_S8192_d1 h_S_ hy hi j

end Cert.Proof.Vq

end
-- ==== Proof.Host.lean ====
/-
  THE HOST OPERATIONS of the program as three straight lines — before the SparseCore call, between the two calls, after
  the TensorCore call — with what each leaves in the buffers the proof reads. The distances and the index list are
  named once (`dist`, `nearest`): the reference computes the same ones.
-/
module

public import proofs.«01_k».proof.Proof.ArgRange
public import Idealize.ShloMosaic.Lib.StableHlo.Run
public import Idealize.ShloMosaic.Lib.Pipeline.FrameTail

@[expose] public section

noncomputable section

namespace Cert.Proof.Vq

open Cert.KernelIdeal Cert.KernelIdeal.Gen

open Idealize.ShloMosaic Idealize.ShloMosaic.TcCoe
open Idealize.SL Idealize.SL.Sem
open Idealize.ShloMosaic.StableHlo (after)

variable {F : FTy → Type} [FloatOps F]

/-- The squared distances, up to the order of the sums: `(Σ x²) - 2·(x·e) + Σ e²`. -/
def dist (x : Vec F S8192x64 .f32) (e : Vec F S64x8192 .f32) : Vec F S8192x8192 .f32 :=
  addf
    (subf
      (broadcastInDim S8192x8192 ![0, 1] bcast_S8192x1_S8192x8192_0_1 (broadcastInDim S8192x1 ![0] bcast_S8192_S8192x1_0
        (Host.reduceAdd (mulf x x) (constant S_ .f32 0x00000000#32) reducesTo_S8192x64_S8192_d1 h_S_)))
      (mulf (broadcastInDim S8192x8192 ![] bcast_S_S8192x8192 (constant S_ .f32 0x40000000#32))
        (Host.dotGeneral dot_S8192x64_S64x8192_S8192x8192_1_0_0_1_n_n none x e)))
    (broadcastInDim S8192x8192 ![0, 1] bcast_S1x8192_S8192x8192_0_1 (broadcastInDim S1x8192 ![1] bcast_S8192_S1x8192_1
      (Host.reduceAdd (mulf e e) (constant S_ .f32 0x00000000#32) reducesTo_S64x8192_S8192_d0 h_S_)))

/-- The index list: per row of `x`, the column of `e` nearest to it. -/
def nearest (x : Vec F S8192x64 .f32) (e : Vec F S64x8192 .f32) : Vec F S8192 .i32 :=
  argFn (dist x e) positions (constant S_ .f32 0x7F800000#32) (constantI S_ 32 0#32)

theorem nearest_lt (x : Vec F S8192x64 .f32) (e : Vec F S64x8192 .f32) (j : S8192.Idx) : (nearest x e j).toNat < 8192 :=
  argFn_lt _ _ _ _ positions_lt zeroWord_lt j

/-- The table the SparseCore call gathers from: the columns of `e` as rows, each with 64 zeros after it. -/
def table (e : Vec F S64x8192 .f32) : Vec F S8192x128 .f32 :=
  pad S8192x128 ![0, 0] ![0, 64] ![0, 0] (transpose S8192x64 [1, 0] e transposes_S64x8192_S8192x64_1_0)
    (sitofp .f32 (constantI S_ 32 0#32)) pads_S8192x64_S8192x128_000_0640 h_S_

/-! ## The three lines -/

/-- The least value of each row, whose position the index list holds. -/
def minFn (x : Vec F S8192x8192 .f32) (y : Vec F S8192x8192 .i32) (u : Vec F S_ .f32) (v : Vec F S_ .i32) : Vec F S8192 .f32 :=
  fun j => (Host.argReduce reducer_argmin_f32_i32 x y u v reducesTo_S8192x8192_S8192_d1 h_S_ j).1

theorem minFn_eq : minFn (F := F) = fun x y u v j => (Host.argReduce reducer_argmin_f32_i32 x y u v reducesTo_S8192x8192_S8192_d1 h_S_ j).1 := rfl

/-- Before the SparseCore call. -/
def opsA : List (HloOp τ sig (Elt F)) :=
  [StableHlo.reshape main_arg0 main_v0 (rfl : (.f32 : EltTy) = .f32) shapeCasts_S8x1024x64_S8192x64,
   StableHlo.binary main_v0 main_v0 main_v1 (mulf : (⟨S8192x64, .f32⟩ : BufTy).Contents (Elt F) → (⟨S8192x64, .f32⟩ : BufTy).Contents (Elt F) → (⟨S8192x64, .f32⟩ : BufTy).Contents (Elt F)),
   StableHlo.nullary main_cst (constant S_ .f32 0x00000000#32),
   StableHlo.binary main_v1 main_cst main_v2 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v2 main_v3 (broadcastInDim S8192x1 ![0] bcast_S8192_S8192x1_0 : (⟨S8192, .f32⟩ : BufTy).Contents (Elt F) → (⟨S8192x1, .f32⟩ : BufTy).Contents (Elt F)),
   StableHlo.binary main_v0 main_arg1 main_v4 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
   StableHlo.nullary main_cst_0 (constant S_ .f32 0x40000000#32),
   StableHlo.unary main_cst_0 main_v5 (broadcastInDim S8192x8192 ![] bcast_S_S8192x8192 : (⟨S_, .f32⟩ : BufTy).Contents (Elt F) → (⟨S8192x8192, .f32⟩ : BufTy).Contents (Elt F)),
   StableHlo.binary main_v5 main_v4 main_v6 (mulf : (⟨S8192x8192, .f32⟩ : BufTy).Contents (Elt F) → (⟨S8192x8192, .f32⟩ : BufTy).Contents (Elt F) → (⟨S8192x8192, .f32⟩ : BufTy).Contents (Elt F)),
   StableHlo.unary main_v3 main_v7 (broadcastInDim S8192x8192 ![0, 1] bcast_S8192x1_S8192x8192_0_1 : (⟨S8192x1, .f32⟩ : BufTy).Contents (Elt F) → (⟨S8192x8192, .f32⟩ : BufTy).Contents (Elt F)),
   StableHlo.binary main_v7 main_v6 main_v8 (subf : (⟨S8192x8192, .f32⟩ : BufTy).Contents (Elt F) → (⟨S8192x8192, .f32⟩ : BufTy).Contents (Elt F) → (⟨S8192x8192, .f32⟩ : BufTy).Contents (Elt F)),
   StableHlo.binary main_arg1 main_arg1 main_v9 (mulf : (⟨S64x8192, .f32⟩ : BufTy).Contents (Elt F) → (⟨S64x8192, .f32⟩ : BufTy).Contents (Elt F) → (⟨S64x8192, .f32⟩ : BufTy).Contents (Elt F)),
   StableHlo.nullary main_cst_1 (constant S_ .f32 0x00000000#32),
   StableHlo.binary main_v9 main_cst_1 main_v10 ((fun x v => Host.reduceAdd x v reducesTo_S64x8192_S8192_d0 h_S_) : (⟨S64x8192, .f32⟩ : BufTy).Contents (Elt F) → (⟨S_, .f32⟩ : BufTy).Contents (Elt F) → (⟨S8192, .f32⟩ : BufTy).Contents (Elt F)),
   StableHlo.unary main_v10 main_v11 (broadcastInDim S1x8192 ![1] bcast_S8192_S1x8192_1 : (⟨S8192, .f32⟩ : BufTy).Contents (Elt F) → (⟨S1x8192, .f32⟩ : BufTy).Contents (Elt F)),
   StableHlo.unary main_v11 main_v12 (broadcastInDim S8192x8192 ![0, 1] bcast_S1x8192_S8192x8192_0_1 : (⟨S1x8192, .f32⟩ : BufTy).Contents (Elt F) → (⟨S8192x8192, .f32⟩ : BufTy).Contents (Elt F)),
   StableHlo.binary main_v8 main_v12 main_v13 (addf : (⟨S8192x8192, .f32⟩ : BufTy).Contents (Elt F) → (⟨S8192x8192, .f32⟩ : BufTy).Contents (Elt F) → (⟨S8192x8192, .f32⟩ : BufTy).Contents (Elt F)),
   StableHlo.nullary main_call0_v0 (iotaInDim S8192x8192 32 1),
   StableHlo.nullary main_call0_cst (constant S_ .f32 0x7F800000#32),
   StableHlo.nullary main_call0_c (constantI S_ 32 0#32),
   StableHlo.quaternary main_v13 main_call0_v0 main_call0_cst main_call0_c main_call0_v1_0 (minFn : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .f32⟩ : BufTy).Contents (Elt F)),
   StableHlo.quaternary main_v13 main_call0_v0 main_call0_cst main_call0_c main_v14 (argFn : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .i32⟩ : BufTy).Contents (Elt F)),
   StableHlo.unary main_arg1 main_v15 ((transpose S8192x64 [1, 0] · transposes_S64x8192_S8192x64_1_0) : (⟨S64x8192, .f32⟩ : BufTy).Contents (Elt F) → (⟨S8192x64, .f32⟩ : BufTy).Contents (Elt F)),
   StableHlo.nullary main_c (constantI S_ 32 0#32),
   StableHlo.unary main_c main_call1_v0 (sitofp .f32 : (⟨S_, .i32⟩ : BufTy).Contents (Elt F) → (⟨S_, .f32⟩ : BufTy).Contents (Elt F)),
   StableHlo.binary main_v15 main_call1_v0 main_v16 ((fun x v => pad S8192x128 ![0, 0] ![0, 64] ![0, 0] x v pads_S8192x64_S8192x128_000_0640 h_S_) : (⟨S8192x64, .f32⟩ : BufTy).Contents (Elt F) → (⟨S_, .f32⟩ : BufTy).Contents (Elt F) → (⟨S8192x128, .f32⟩ : BufTy).Contents (Elt F))]

/-- Between the calls. -/
def opsB : List (HloOp τ sig (Elt F)) :=
  [StableHlo.unary main_v17 main_v18 ((extractStridedSlice S8192x64 ![0, 0] · slices_S8192x128_S8192x64_0_0) : (⟨S8192x128, .f32⟩ : BufTy).Contents (Elt F) → (⟨S8192x64, .f32⟩ : BufTy).Contents (Elt F))]

/-- After the TensorCore call. -/
def opsC : List (HloOp τ sig (Elt F)) :=
  [StableHlo.reshape main_v19_0 main_v20 (rfl : (.f32 : EltTy) = .f32) shapeCasts_S8192x64_S8x1024x64,
   StableHlo.reshape main_v19_1 main_v21 (rfl : (.f32 : EltTy) = .f32) shapeCasts_S1x1_S_]

/-- The program on a device: the first line, the SparseCore call, the second, the TensorCore call, the third. -/
theorem main_eq (d : Dev nD) : main (F := F) d
    = (StableHlo.seq opsA >>= fun _ => (K (F := F)).run d 0 >>= fun _ => StableHlo.seq opsB >>= fun _ =>
        SparseCore.liftProg (Prog.op (.customCall (Pipeline.entry 0) ()) .ret) >>= fun _ => StableHlo.seq opsC) := by
  simp only [main, fn_argmin.body, fn_pad.body, opsA, opsB, opsC, StableHlo.seq, bind_assoc, pure_bind, argFn_eq, minFn_eq]
  rfl

/-! ## What the lines leave -/

variable (V : Valuation τ sig (Elt F))

theorem opsA_v14 : after opsA V (Proc.devRef .tc main_v14)
    = nearest (F := F) (shapeCast S8192x64 (V (Proc.devRef .tc main_arg0)) shapeCasts_S8x1024x64_S8192x64) (V (Proc.devRef .tc main_arg1)) := by
  unfold opsA nearest dist
  after_results_simp
  rfl

theorem opsA_v16 : after opsA V (Proc.devRef .tc main_v16) = table (F := F) (V (Proc.devRef .tc main_arg1)) := by
  unfold opsA table
  after_results_simp
theorem opsA_v0 : after opsA V (Proc.devRef .tc main_v0) = shapeCast S8192x64 (V (Proc.devRef .tc main_arg0)) shapeCasts_S8x1024x64_S8192x64 := by
  unfold opsA
  after_results_simp
  rfl
theorem opsA_arg0 : after opsA V (Proc.devRef .tc main_arg0) = V (Proc.devRef .tc main_arg0) := by
  unfold opsA
  after_results_simp
theorem opsA_arg1 : after opsA V (Proc.devRef .tc main_arg1) = V (Proc.devRef .tc main_arg1) := by
  unfold opsA
  after_results_simp

theorem opsB_v18 : after opsB V (Proc.devRef .tc main_v18)
    = extractStridedSlice S8192x64 ![0, 0] (V (Proc.devRef .tc main_v17)) slices_S8192x128_S8192x64_0_0 := by
  unfold opsB
  after_results_simp
theorem opsB_ne (r : Ref sig .tc) (h : r ≠ main_v18) : after opsB V (Proc.devRef .tc r) = V (Proc.devRef .tc r) := by
  unfold opsB
  rw [StableHlo.after_cons, StableHlo.after_nil, StableHlo.unary_result_ne]; exact h

theorem opsC_v20 : after opsC V (Proc.devRef .tc main_v20) = shapeCast S8x1024x64 (V (Proc.devRef .tc main_v19_0)) shapeCasts_S8192x64_S8x1024x64 := by
  unfold opsC
  after_results_simp
  rfl
theorem opsC_v21 : after opsC V (Proc.devRef .tc main_v21) = shapeCast S_ (V (Proc.devRef .tc main_v19_1)) shapeCasts_S1x1_S_ := by
  unfold opsC
  after_results_simp
  rfl
theorem opsC_arg0 : after opsC V (Proc.devRef .tc main_arg0) = V (Proc.devRef .tc main_arg0) := by
  unfold opsC
  after_results_simp
theorem opsC_arg1 : after opsC V (Proc.devRef .tc main_arg1) = V (Proc.devRef .tc main_arg1) := by
  unfold opsC
  after_results_simp

/-! ## What the lines touch: buffers of the TensorCore's own, none of them a kernel's -/

/-- The buffers @main holds throughout. -/
abbrev ucRefs : Finset (DevRef τ sig) := Pipeline.ucRefs τ sig

theorem opsA_bufs : ∀ op ∈ opsA (F := F), op.bufs ⊆ ucRefs := by
  have h : ∀ op ∈ opsA (F := F), op.bufs ⊆ StableHlo.tcRefs τ sig := by
    simp [opsA]
  intro op ho b hb
  exact Finset.mem_filter.mpr ⟨h op ho hb, by rw [op.no_scoped b hb]; decide⟩
theorem opsB_bufs : ∀ op ∈ opsB (F := F), op.bufs ⊆ ucRefs := by
  have h : ∀ op ∈ opsB (F := F), op.bufs ⊆ StableHlo.tcRefs τ sig := by
    simp [opsB]
  intro op ho b hb
  exact Finset.mem_filter.mpr ⟨h op ho hb, by rw [op.no_scoped b hb]; decide⟩
theorem opsC_bufs : ∀ op ∈ opsC (F := F), op.bufs ⊆ ucRefs := by
  have h : ∀ op ∈ opsC (F := F), op.bufs ⊆ StableHlo.tcRefs τ sig := by
    simp [opsC]
  intro op ho b hb
  exact Finset.mem_filter.mpr ⟨h op ho hb, by rw [op.no_scoped b hb]; decide⟩
theorem opsA_fresh : ∀ op ∈ opsA (F := F), op.fresh = ∅ := by
  simp only [opsA, List.forall_mem_cons]
  exact ⟨rfl, rfl, rfl, rfl, rfl, rfl, rfl, rfl, rfl, rfl, rfl, rfl, rfl, rfl, rfl, rfl, rfl, rfl, rfl, rfl, rfl, rfl, rfl, rfl, rfl, rfl, nofun⟩
theorem opsB_fresh : ∀ op ∈ opsB (F := F), op.fresh = ∅ := by
  simp only [opsB, List.forall_mem_cons]
  exact ⟨rfl, nofun⟩
theorem opsC_fresh : ∀ op ∈ opsC (F := F), op.fresh = ∅ := by
  simp only [opsC, List.forall_mem_cons]
  exact ⟨rfl, rfl, nofun⟩

end Cert.Proof.Vq

end
-- ==== Proof.Main.lean ====
/-
  THE WHOLE RUN of the program, over any float values: from any launch memory it terminates with the arguments as they
  were, its two results at the values below, and no semaphore up.
-/
module

public import proofs.«01_k».proof.Proof.Call
public import proofs.«01_k».proof.Proof.Region
public import proofs.«01_k».proof.Proof.Host

@[expose] public section

noncomputable section

namespace Cert.Proof.Vq

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the buffers from step to step -/

/-- At launch; after the first line; after the SparseCore call; after the second line; after the TensorCore call; at
    the end. -/
abbrev val0 (d : Dev nD) : Valuation τ sig (Elt F) := fun b => m (d, b)
def val1 (d : Dev nD) : Valuation τ sig (Elt F) := after opsA (val0 m d)
def rows (d : Dev nD) : Buf (Elt F) (oLoc d) :=
  gathered (F := F) (val1 m d (Proc.devRef .tc main_v16)) (val1 m d (Proc.devRef .tc main_v14))
def val2 (d : Dev nD) : Valuation τ sig (Elt F) := Function.update (val1 m d) (Proc.devRef .tc main_v17) (rows m d)
def val3 (d : Dev nD) : Valuation τ sig (Elt F) := after opsB (val2 m d)
abbrev entry3 (c : Dev nD) (b : Ref sig .tc) : Buf (Elt F) ((c : Thread nD τ).loc b) := val3 m c (Proc.devRef .tc b)
def val4 (d : Dev nD) : Valuation τ sig (Elt F) :=
  Function.update (Function.update (val3 m d) (Proc.devRef .tc main_v19_0) (outAll (entry3 m) d)) (Proc.devRef .tc main_v19_1) (lossAll (entry3 m) d)
def val5 (d : Dev nD) : Valuation τ sig (Elt F) := after opsC (val4 m d)

/-- What the SparseCore call is handed. -/
abbrev idxs (d : Dev nD) : Buf (Elt F) (iLoc d) := val1 m d (Proc.devRef .tc main_v14)
abbrev tabs (d : Dev nD) : Buf (Elt F) (xLoc d) := val1 m d (Proc.devRef .tc main_v16)
abbrev olds (d : Dev nD) : Buf (Elt F) (oLoc d) := val1 m d (Proc.devRef .tc main_v17)

theorem idxs_lt (d : Dev nD) (j : S8192.Idx) : (idxs m d j).toNat < 8192 := by
  have h : idxs m d = nearest (F := F) _ _ := opsA_v14 (val0 m d)
  rw [h]; exact nearest_lt _ _ j

abbrev Pm : (K (F := F)).Pay (nD := nD) (Val := Elt F) (Name := ℕ) (U := UU) := P (idxs m) (tabs m) (olds m)

/-! ## The launch's ghost state -/

def u₀ : UU :=
  (initOf (K (F := F)).hsCells (K (F := F)).hsToks, (initOf (Pipeline.cells cfgs cellOf_inj) (Pipeline.launchToks cfgs cellOf_inj), 1))

/-- What the TensorCore call's own handshakes start from. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem ghost_deal : (BI.own (EP (F := F) (initOf (Pipeline.cells cfgs cellOf_inj) (Pipeline.launchToks cfgs cellOf_inj))) : sProp 𝕄)
    ⊢ iprop(|==> bigSep Finset.univ G) := by
  refine (Pipeline.fund_ghost (nD := nD) (τ := τ) cfgs (EP (F := F)) cellOf_inj).trans (BI.bupd_mono ?_)
  rw [← bigSep_sep']
  refine bigSep_mono fun d _ => ?_
  rw [bigSep_univ_of_subsingleton (0 : Fin 1), bigSep_univ_of_subsingleton (0 : Fin 1)]
  exact Entails.of_eq (PROP := sProp 𝕄) (show iprop(Pipeline.cellsGhost cfgs (EP (F := F)) 0 d ∗ Pipeline.toksInit cfgs (EP (F := F)) 0 d) = G d from rfl)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (Pm m).x q thr) := by
  unfold u₀
  iintro Hu
  ihave H := (ownU_pair (initOf (K (F := F)).hsCells (K (F := F)).hsToks) _) $$ Hu
  icases H with ⟨HH, HR⟩
  ihave HR' := (show (BI.own (embR (initOf (Pipeline.cells cfgs cellOf_inj) (Pipeline.launchToks cfgs cellOf_inj), (1 : Counters))) : sProp 𝕄)
      ⊢ iprop(BI.own (EP (F := F) (initOf (Pipeline.cells cfgs cellOf_inj) (Pipeline.launchToks cfgs cellOf_inj))) ∗ _) from own_pair_emb _ _ _) $$ HR
  icases HR' with ⟨HP, -⟩
  imod ghost_deal $$ HP with HG
  imodintro
  isplitl [HH]; · iexact HH
  isplitl [HG]; · iexact HG
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), bigSep_none]
  iempintro

/-! ## The operands of the SparseCore call among the buffers held -/

abbrev callRefs : Finset (DevRef τ sig) := {Proc.devRef .tc main_v14, Proc.devRef .tc main_v16, Proc.devRef .tc main_v17}

theorem callRefs_sub : callRefs ⊆ ucRefs := by
  intro b hb
  simp only [Finset.mem_insert, Finset.mem_singleton] at hb
  rcases hb with rfl | rfl | rfl <;> exact Pipeline.devRef_mem_ucRefs rfl

theorem held_callRefs (d : Dev nD) (W : Valuation τ sig (Elt F)) :
    (held (T d) callRefs W : sProp 𝕄)
      = iprop((iLoc d ↦{fullShare} W (Proc.devRef .tc main_v14)) ∗ (xLoc d ↦{fullShare} W (Proc.devRef .tc main_v16)) ∗ oLoc d ↦{fullShare} W (Proc.devRef .tc main_v17)) := by
  unfold held
  rw [SparseCore.bigSep_insert' (by decide), SparseCore.bigSep_insert' (by decide), bigSep_singleton]

/-- Into the call. -/
theorem call_in (d : Dev nD) : (held (T d) ucRefs (val1 m d) : sProp 𝕄)
    = iprop((bigSep Finset.univ fun c : Fin ((K (F := F)).nCore 0) => (Pm m).st 0 d c) ∗ held (T d) (ucRefs \ callRefs) (val1 m d)) := by
  rw [StableHlo.held_sub_split (T d) callRefs_sub (val1 m d), held_callRefs, st0_eq]

theorem val2_v17 (d : Dev nD) : val2 m d (Proc.devRef .tc main_v17) = gathered (F := F) (tabs m d) (idxs m d) := by
  unfold val2 rows
  rw [Function.update_self]
theorem val2_ne (d : Dev nD) (b : DevRef τ sig) (h : b ≠ Proc.devRef .tc main_v17) : val2 m d b = val1 m d b := by
  unfold val2
  rw [Function.update_of_ne h]

/-- Out of it. -/
theorem call_out (d : Dev nD) : (held (T d) ucRefs (val2 m d) : sProp 𝕄)
    = iprop((bigSep Finset.univ fun c : Fin ((K (F := F)).nCore 0) => (Pm m).dn 0 d c) ∗ held (T d) (ucRefs \ callRefs) (val1 m d)) := by
  rw [StableHlo.held_sub_split (T d) callRefs_sub (val2 m d), held_callRefs, dn0_eq, val2_v17,
    val2_ne m d (Proc.devRef .tc main_v14) (by decide), val2_ne m d (Proc.devRef .tc main_v16) (by decide),
    StableHlo.held_congr (T d) (V := val2 m d) (V' := val1 m d) fun b hb => val2_ne m d b (by
      rintro rfl
      exact (Finset.mem_sdiff.mp hb).2 (by simp only [Finset.mem_insert, Finset.mem_singleton, or_true]))]

/-! ## The TensorCore call -/

theorem val4_out (d : Dev nD) : val4 m d (Proc.devRef .tc main_v19_0) = outAll (entry3 m) d := by
  unfold val4
  rw [Function.update_of_ne (by decide), Function.update_self]
theorem val4_loss (d : Dev nD) : val4 m d (Proc.devRef .tc main_v19_1) = lossAll (entry3 m) d := by
  unfold val4
  rw [Function.update_self]
theorem val4_ne (d : Dev nD) (b : Ref sig .tc) (h0 : b ≠ main_v19_0) (h1 : b ≠ main_v19_1) :
    val4 m d (Proc.devRef .tc b) = val3 m d (Proc.devRef .tc b) := by
  unfold val4
  rw [Function.update_of_ne (StableHlo.devRef_ne_of_ne h1), Function.update_of_ne (StableHlo.devRef_ne_of_ne h0)]

/-- The call over this run's contents. -/
abbrev seg : Pipeline.RegionSeg (pcfgs (F := F)) adm (pdats (entry3 m)) (none : HIx 1) defs₀ 𝒱₀ (K (F := F)).L (K (F := F)).lev 0 :=
  reg (entry3 m) (fun c b => val4 m c (Proc.devRef .tc b)) (fun _ => iprop(emp)) (val4_out m) (val4_loss m) (val4_ne m)

theorem seg_pre (d : Dev nD) : (seg m).pre d = iprop(unscopedBufs d (fun b => val3 m d (Proc.devRef .tc b)) ∗ emp ∗ owing (F := F) d) := rfl
theorem seg_post (d : Dev nD) : (seg m).post d = iprop(unscopedBufs d (fun b => val4 m d (Proc.devRef .tc b)) ∗ emp ∗ owing (F := F) d) := rfl

/-! ## @main on the TensorCore -/

/-- What is read at the end: the arguments and the results. -/
abbrev endRefs : Finset (DevRef τ sig) :=
  {Proc.devRef .tc main_arg0, Proc.devRef .tc main_arg1, Proc.devRef .tc main_v20, Proc.devRef .tc main_v21}

theorem endRefs_sub : endRefs ⊆ ucRefs := by
  intro b hb
  simp only [Finset.mem_insert, Finset.mem_singleton] at hb
  rcases hb with rfl | rfl | rfl | rfl <;> exact Pipeline.devRef_mem_ucRefs rfl

abbrev FIN (d : Dev nD) : sProp 𝕄 := held (T d) endRefs (val5 m d)

/-- The launch's buffers are those held at the launch's contents. -/
theorem launch_held (d : Dev nD) : (unscopedBufs d (fun b => m ((SparseCore.T d).loc b)) : sProp 𝕄) = held (T d) ucRefs (val0 m d) :=
  Pipeline.unscopedBufs_held (Ix := HIx 1) (Name := ℕ) (U := UU) (Lvl := ℕ) d (val0 m d)

/-- After the SparseCore call the core owes nothing; the rest of its state in the handshakes stays as it is. -/
theorem tcSt_one (d : Dev nD) : ∃ Q : sProp 𝕄, (K (F := F)).tcSt EH d 1 = iprop(owing (F := F) d ∗ Q) := by
  unfold SparseCore.Cfg.tcSt
  rw [(K (F := F)).Otc_end d (le_refl 1)]
  exact ⟨_, rfl⟩

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨Q, hQ⟩ := tcSt_one (F := F) d
  unfold SparseCore.Cfg.tcRes SparseCore.Cfg.tcEnd
  rw [main_eq, launch_held m d]
  iintro ⟨#Hctx, Hst, ⟨Hb, Hheld, Hts, -⟩, Hcells, Htoks⟩
  iapply (StableHlo.wp_seq 𝒱 none Set.univ d ucRefs _ opsA opsA_bufs opsA_fresh (val0 m d)) $$ [Hb Hheld]
  · isplitl [Hb] <;> iassumption
  iintro ⟨Hb, Hheld⟩
  ihave Hheld := (show (held (SparseCore.T d) ucRefs (after opsA (val0 m d)) : sProp 𝕄) ⊢ _ from Entails.of_eq (call_in m d)) $$ Hheld
  icases Hheld with ⟨Hin, Hrest⟩
  rw [wp_bind]
  iapply ((K (F := F)).wp_run (D (F := F)) 𝒱 (EH := EH) (P := Pm m) κ d 0)
  isplitr; · iexact Hctx
  isplitl [Hst]; · iexact Hst
  isplitl [Hin]; · iexact Hin
  iintro ⟨Hst, Hdn⟩
  ihave Hheld := (Entails.of_eq (call_out m d).symm) $$ [Hdn Hrest]
  · isplitl [Hdn] <;> iassumption
  iapply (StableHlo.wp_seq 𝒱 none Set.univ d ucRefs _ opsB opsB_bufs opsB_fresh (val2 m d)) $$ [Hb Hheld]
  · isplitl [Hb] <;> iassumption
  iintro ⟨Hb, Hheld⟩
  rw [wp_bind]
  iapply ((K (F := F)).wp_liftProg (D (F := F)) 𝒱 (T d) Set.univ none _ _)
  ihave Hst := (show (K (F := F)).tcSt EH d ((0 : Fin 1).val + 1) ⊢ iprop(owing (F := F) d ∗ Q) from Entails.of_eq hQ) $$ Hst
  icases Hst with ⟨HO, Hst⟩
  ihave #Hlev := (SparseCore.Cfg.ctx_levAts κ) $$ Hctx
  iapply (Pipeline.RegionSeg.wp (pcfgs (F := F)) adm (pdats (entry3 m)) (none : HIx 1) cellOf_inj (EP (F := F)) defs₀ 𝒱₀ (K (F := F)).L (K (F := F)).lev
    (seg m) d none (fun _ h => nomatch h) _ _)
  isplitr [Hb Hheld HO Hcells Htoks]
  · rw [seg_post]
    iintro ⟨Hb, Hub, -, HO⟩
    rw [wp_ret]; imodintro
    ihave Hheld := (Entails.of_eq (Pipeline.unscopedBufs_held d (val4 m d))) $$ Hub
    rw [← bind_pure (StableHlo.seq opsC)]
    iapply (StableHlo.wp_seq 𝒱 none Set.univ d ucRefs _ opsC opsC_bufs opsC_fresh (val4 m d)) $$ [Hb Hheld]
    · isplitl [Hb] <;> iassumption
    iintro ⟨Hb, Hheld⟩
    ihave Hheld := (show (held (SparseCore.T d) ucRefs (after opsC (val4 m d)) : sProp 𝕄) ⊢ _ from
      Entails.of_eq (StableHlo.held_sub_split (SparseCore.T d) endRefs_sub (val5 m d))) $$ Hheld
    icases Hheld with ⟨Hfin, -⟩
    rw [wp_pure]
    imodintro
    isplitl [Hst HO]
    · rw [hQ]
      isplitl [HO]; · iexact HO
      iexact Hst
    isplitl [Hfin]; · iexact Hfin
    isplitl [Hb] <;> iassumption
  isplitl [Hb]; · iexact Hb
  isplitl [Hheld HO]
  · rw [seg_pre]
    isplitl [Hheld]
    · iapply (Entails.of_eq (Pipeline.unscopedBufs_held d (val3 m d)).symm); iexact Hheld
    isplitr; · iempintro
    iexact HO
  isplitr; · iexact Hlev
  isplitl [Hcells] <;> iassumption

/-! ## The run -/

/-- Buffers held at contents are at them. -/
theorem held_agree (d : Dev nD) (s' : Phys nD τ sig (Elt F)) (W : Valuation τ sig (Elt F)) (R : Finset (DevRef τ sig)) :
    iprop(held (T d) R W ∗ SI s') ⊢ (⌜∀ b ∈ R, s'.mem.mem (d, b) = W b⌝ : sProp 𝕄) := by
  induction R using Finset.induction_on with
  | empty => iintro -; ipureintro; exact fun b hb => absurd hb (Finset.notMem_empty b)
  | insert b R hb ih =>
    unfold held at ih ⊢
    rw [SparseCore.bigSep_insert' hb]
    iintro ⟨⟨H1, H2⟩, HSI⟩
    ihave H := (persistent_entails_right (SI_pointsTo_agree (st := s') (ℓ := ((d, b) : Loc nD τ sig)) (I := Finset.univ) (q := fullShare) (f := W b))) $$ [HSI H1]
    · isplitl [HSI] <;> iassumption
    icases H with ⟨%h1, HSI, -⟩
    ihave H := ih $$ [H2 HSI]
    · isplitl [H2] <;> iassumption
    icases H with %h2
    ipureintro
    intro b' hb'
    rcases Finset.mem_insert.mp hb' with rfl | hb'
    · exact funext fun i => h1 i (Finset.mem_univ i)
    · exact h2 b' hb'

def fq (d : Dev nD) (s' : Phys nD τ sig (Elt F)) : Prop := ∀ b ∈ endRefs, s'.mem.mem (d, b) = val5 m d b

theorem hfin (d : Dev nD) (s' : Phys nD τ sig (Elt F)) : iprop(FIN m d ∗ SI s') ⊢ (⌜fq m d s'⌝ : sProp 𝕄) :=
  held_agree d s' (val5 m d) endRefs

def QC : PUnit × MemSt nD τ sig (Elt F) → Prop := fun r => (∀ c : Dev nD, ∀ b ∈ endRefs, r.2.mem (c, b) = val5 m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (idxs m) (tabs m) (olds m) facts (idxs_lt m))
    (fun q _ => match q with | 0 => SparseCore.Cfg.VecSplit.of_plain (vecSplit (idxs m) (tabs m) (olds m)))
    m ρ main G (FIN m) (u₀ (F := F)) (sep_elim_left.trans (hu₀ m)) (hmain m ρ) (fq m) (hfin m) (QC m) (fun _ h hz => ⟨h, hz⟩)

end Cert.Proof.Vq

end
-- ==== Proof.Results.lean ====
/-
  WHAT THE PROGRAM'S RUN LEAVES, read off its final contents: the arguments as they were; the first result the rows
  `x + (q - x)`, where `q` are the rows gathered; the second the loss.
-/
module

public import proofs.«01_k».proof.Proof.Main

@[expose] public section

noncomputable section

namespace Cert.Proof.Vq

open Cert.KernelIdeal Cert.KernelIdeal.Gen

open Idealize.ShloMosaic Idealize.ShloMosaic.TcCoe
open Idealize.SL Idealize.SL.Sem
open Idealize.ShloMosaic.StableHlo (after)

variable {F : FTy → Type} [FloatOps F]

/-- The gathered rows, without the 64 columns added to the table: row `r` is column `nearest x e r` of `e`. -/
def quant (x : Vec F S8192x64 .f32) (e : Vec F S64x8192 .f32) : Vec F S8192x64 .f32 :=
  extractStridedSlice S8192x64 ![0, 0] (gathered (F := F) (table e) (nearest x e)) slices_S8192x128_S8192x64_0_0

/-- The blocks of 512 rows the TensorCore call reads at a point. -/
abbrev blockOf (a : Vec F S8192x64 .f32) (t : Fin cfg1.N) : Vec F S512x64 .f32 := ((cfg1.win 0).blk t).view.read (Elt F) a

/-- The loss after point `n`, from the gathered rows `q` and the input rows `x`. -/
def lossOf (q x : Vec F S8192x64 .f32) : (n : ℕ) → n < cfg1.N → Vec F S1x1 .f32
  | 0, h => lossStep (blockOf q ⟨0, h⟩) (blockOf x ⟨0, h⟩) zeroLoss
  | n + 1, h => lossStep (blockOf q ⟨n + 1, h⟩) (blockOf x ⟨n + 1, h⟩) (lossOf q x n (Nat.lt_of_succ_lt h))

theorem lossAt_eq (V : (c : Dev nD) → (b : Ref sig .tc) → Buf (Elt F) ((c : Thread nD τ).loc b)) (c : Dev nD) :
    ∀ (n : ℕ) (h : n < cfg1.N), lossAt V c n h = lossOf (F := F) (V c main_v18) (V c main_v0) n h
  | 0, h => rfl
  | n + 1, h => by
    unfold lossAt lossOf
    rw [lossAt_eq V c n]
    rfl

variable (m : (ℓ : Loc nD τ sig) → Buf (Elt F) ℓ)

/-- The input as rows, and the codebook. -/
abbrev xIn (d : Dev nD) : Vec F S8192x64 .f32 := shapeCast S8192x64 (m (d.tc.loc main_arg0)) shapeCasts_S8x1024x64_S8192x64
abbrev eIn (d : Dev nD) : Vec F S64x8192 .f32 := m (d.tc.loc main_arg1)

theorem val3_v0 (d : Dev nD) : val3 m d (Proc.devRef .tc main_v0) = xIn m d := by
  unfold val3
  rw [opsB_ne _ _ (by decide), val2_ne m d _ (by decide)]
  exact opsA_v0 (val0 m d)

theorem val3_v18 (d : Dev nD) : val3 m d (Proc.devRef .tc main_v18) = quant (F := F) (xIn m d) (eIn m d) := by
  unfold val3
  rw [opsB_v18, val2_v17]
  unfold quant
  rw [show tabs m d = table (F := F) (eIn m d) from opsA_v16 (val0 m d), show idxs m d = nearest (F := F) (xIn m d) (eIn m d) from opsA_v14 (val0 m d)]

theorem val5_arg0 (d : Dev nD) : val5 m d (Proc.devRef .tc main_arg0) = m (d.tc.loc main_arg0) := by
  unfold val5
  rw [opsC_arg0, val4_ne m d _ (by decide) (by decide)]
  unfold val3
  rw [opsB_ne _ _ (by decide), val2_ne m d _ (by decide)]
  exact opsA_arg0 (val0 m d)

theorem val5_arg1 (d : Dev nD) : val5 m d (Proc.devRef .tc main_arg1) = m (d.tc.loc main_arg1) := by
  unfold val5
  rw [opsC_arg1, val4_ne m d _ (by decide) (by decide)]
  unfold val3
  rw [opsB_ne _ _ (by decide), val2_ne m d _ (by decide)]
  exact opsA_arg1 (val0 m d)

/-- The first result. -/
def result0 (x : Vec F S8192x64 .f32) (e : Vec F S64x8192 .f32) : Vec F S8x1024x64 .f32 :=
  shapeCast S8x1024x64 (addf x (subf (quant x e) x)) shapeCasts_S8192x64_S8x1024x64
/-- The second result. -/
def result1 (x : Vec F S8192x64 .f32) (e : Vec F S64x8192 .f32) : Vec F S_ .f32 :=
  shapeCast S_ (lossOf (quant x e) x 15 (by rw [show cfg1.N = 16 from N_1]; decide)) shapeCasts_S1x1_S_

theorem val5_v20 (d : Dev nD) : val5 m d (Proc.devRef .tc main_v20) = result0 (F := F) (xIn m d) (eIn m d) := by
  unfold val5
  rw [opsC_v20, val4_out]
  unfold outAll
  rw [show entry3 m d main_v0 = xIn m d from val3_v0 m d, show entry3 m d main_v18 = quant (F := F) (xIn m d) (eIn m d) from val3_v18 m d]
  rfl

theorem val5_v21 (d : Dev nD) : val5 m d (Proc.devRef .tc main_v21) = result1 (F := F) (xIn m d) (eIn m d) := by
  unfold val5
  rw [opsC_v21, val4_loss]
  unfold lossAll
  rw [lossAt_eq, show entry3 m d main_v0 = xIn m d from val3_v0 m d, show entry3 m d main_v18 = quant (F := F) (xIn m d) (eIn m d) from val3_v18 m d]
  rfl

/-- The run with its four arrays named. -/
theorem run_results [∀ e, Nonempty (Elt F e)] (ρ : Dev nD → PrngReg) :
    θ_run (Cert.KernelIdeal.defs (F := F)) (Cert.KernelIdeal.threads (F := F)) ⟨m, fun _ => 0, ρ⟩ fun r =>
      (∀ c : Dev nD, r.2.mem (c.tc.loc main_v20) = result0 (F := F) (xIn m c) (eIn m c) ∧ r.2.mem (c.tc.loc main_v21) = result1 (F := F) (xIn m c) (eIn m c)
        ∧ r.2.mem (c.tc.loc main_arg0) = m (c.tc.loc main_arg0) ∧ r.2.mem (c.tc.loc main_arg1) = m (c.tc.loc main_arg1))
      ∧ r.2.sem = fun _ => 0 :=
  (θ_run _ _ _).mono (fun r h => ⟨fun c =>
    ⟨(h.1 c (Proc.devRef .tc main_v20) (by simp only [Finset.mem_insert, true_or, or_true])).trans (val5_v20 m c),
     (h.1 c (Proc.devRef .tc main_v21) (by simp only [Finset.mem_insert, Finset.mem_singleton, or_true])).trans (val5_v21 m c),
     (h.1 c (Proc.devRef .tc main_arg0) (by simp only [Finset.mem_insert, true_or])).trans (val5_arg0 m c),
     (h.1 c (Proc.devRef .tc main_arg1) (by simp only [Finset.mem_insert, true_or, or_true])).trans (val5_arg1 m c)⟩, h.2⟩) (run_main m ρ)

/-! ## The ideal program's frame -/

theorem frame_ideal : Cert.quiescent_KernelIdeal := fun m ρ _ =>
  (θ_run Cert.KernelIdeal.defs _ _).mono (fun _ h => ⟨fun c => (h.1 c).2.2, h.2⟩) (run_results (F := Ideal) m ρ)

end Cert.Proof.Vq

end
-- ==== Proof.Frames.lean ====
/-
  THE FRAME OF THE PROGRAM OVER MACHINE FLOATS: its text is the ideal program's, whose run is proved over any float
  values. The two body tables are the same table (label by label), so the ideal program's run is this one's.
-/
module

public import proofs.«01_k».proof.Proof.Results
public import proofs.«01_k».proof.Proof.Gen.Kernel

@[expose] public section

noncomputable section

namespace Cert.Proof.Vq

open Idealize.ShloMosaic Idealize.SL.Sem
open Cert.Kernel.Gen Cert.KernelIdeal.Gen

/-- The kernels' body tables agree, at every processor and label. -/
theorem kernels_same : Cert.Kernel.defs₀ (F := Bits) = Cert.KernelIdeal.defs₀ (F := Bits) := by
  funext c ℓ a
  cases c with
  | tc =>
    match ℓ with
    | 0 => rfl
    | 1 => rfl
  | scScalar c =>
    match ℓ with
    | 0 => rfl
    | 1 => rfl
  | scVector c s =>
    match ℓ with
    | 0 => rfl
    | 1 => rfl

/-- So do the whole body tables, the pipeline's and the SparseCore call's labels over them. -/
theorem tables_same : Cert.Kernel.defs (F := Bits) = Cert.KernelIdeal.defs (F := Bits) :=
  congrArg (fun D => (Cert.KernelIdeal.sc (F := Bits)).defs (Pipeline.defs Cert.KernelIdeal.pcfgs D)) kernels_same

/-- The run of the ideal program's text over machine floats, under any body table equal to its own. -/
theorem run_of_table (m : (ℓ : Loc Cert.KernelIdeal.nD Cert.KernelIdeal.τ Cert.KernelIdeal.sig) → Buf (Elt Bits) ℓ)
    (ρ : Dev Cert.KernelIdeal.nD → PrngReg)
    (D : Defs Cert.KernelIdeal.nD Cert.KernelIdeal.τ Cert.KernelIdeal.sig (Elt Bits) _)
    (hD : D = Cert.KernelIdeal.defs (F := Bits)) :
    θ_run D (Cert.KernelIdeal.threads (F := Bits)) ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) := by
  subst hD
  exact (θ_run Cert.KernelIdeal.defs _ _).mono (fun _ h => ⟨fun c => (h.1 c).2.2, h.2⟩)
    (run_results (F := Bits) m ρ)

/-- Every run of the program over machine floats ends, with its arguments as they were and every semaphore at zero. -/
theorem frame_kernel : Cert.quiescent_Kernel := fun m ρ _ =>
  run_of_table m ρ (Cert.Kernel.defs (F := Bits)) tables_same

end Cert.Proof.Vq

end
-- ==== Proof.Reference.lean ====
/-
  THE REFERENCE'S RUN: a program of host operations only. It computes the same distances and the same index list, takes
  the rows of the code table the list names, and ends with `x + (rows - x)` and with the two weighted mean squares.
-/
module

public import proofs.«01_k».proof.Proof.Host
public import proofs.«01_k».proof.Proof.Gen.ReferenceIdeal
public import proofs.«01_k».proof.Defs
public import Idealize.ShloMosaic.Lib.StableHlo.Run
public import Idealize.ShloMosaic.Lib.Quiescent

@[expose] public section

noncomputable section

namespace Cert.Proof.Vq

open Cert.ReferenceIdeal Cert.ReferenceIdeal.Gen

open Idealize.ShloMosaic Idealize.ShloMosaic.TcCoe
open Idealize.SL Idealize.SL.Sem
open Idealize.ShloMosaic.StableHlo (after)

variable {F : FTy → Type} [FloatOps F]

/-! ## The values -/

/-- The reference's distances. -/
def refDist (x : Vec F S8192x64 .f32) (e : Vec F S64x8192 .f32) : Vec F S8192x8192 .f32 :=
  addf
    (subf
      (broadcastInDim S8192x8192 ![0, 1] bcast_S8192x1_S8192x8192_0_1 (broadcastInDim S8192x1 ![0] bcast_S8192_S8192x1_0
        (Host.reduceAdd (mulf x x) (constant S_ .f32 0x00000000#32) reducesTo_S8192x64_S8192_d1 h_S_)))
      (mulf (broadcastInDim S8192x8192 ![] bcast_S_S8192x8192 (constant S_ .f32 0x40000000#32))
        (Host.dotGeneral dot_S8192x64_S64x8192_S8192x8192_1_0_0_1_n_n none x e)))
    (broadcastInDim S8192x8192 ![0, 1] bcast_S1x8192_S8192x8192_0_1 (broadcastInDim S1x8192 ![1] bcast_S8192_S1x8192_1
      (Host.reduceAdd (mulf e e) (constant S_ .f32 0x00000000#32) reducesTo_S64x8192_S8192_d0 h_S_)))

/-- They are the kernel program's. -/
theorem refDist_eq : refDist (F := F) = dist (F := F) := rfl

/-- The reference's index list of a list of distances, of the positions, and of the two initial values. -/
def refArg (x : Vec F S8192x8192 .f32) (y : Vec F S8192x8192 .i32) (u : Vec F S_ .f32) (v : Vec F S_ .i32) : Vec F S8192 .i32 :=
  fun j => (Host.argReduce reducer_argmin_f32_i32 x y u v reducesTo_S8192x8192_S8192_d1 h_S_ j).2

/-- The least value of each row. -/
def refMin (x : Vec F S8192x8192 .f32) (y : Vec F S8192x8192 .i32) (u : Vec F S_ .f32) (v : Vec F S_ .i32) : Vec F S8192 .f32 :=
  fun j => (Host.argReduce reducer_argmin_f32_i32 x y u v reducesTo_S8192x8192_S8192_d1 h_S_ j).1

theorem refArg_eq : refArg (F := F) = fun x y u v j =>
    (Host.argReduce reducer_argmin_f32_i32 x y u v reducesTo_S8192x8192_S8192_d1 h_S_ j).2 := rfl

theorem refMin_eq : refMin (F := F) = fun x y u v j =>
    (Host.argReduce reducer_argmin_f32_i32 x y u v reducesTo_S8192x8192_S8192_d1 h_S_ j).1 := rfl

/-- It is the kernel program's. -/
theorem refArg_argFn : refArg (F := F) = argFn (F := F) := rfl

/-- The reference's index list. -/
def refNearest (x : Vec F S8192x64 .f32) (e : Vec F S64x8192 .f32) : Vec F S8192 .i32 :=
  refArg (refDist x e) (iotaInDim S8192x8192 32 1) (constant S_ .f32 0x7F800000#32) (constantI S_ 32 0#32)

/-- It is the kernel program's. -/
theorem refNearest_eq (x : Vec F S8192x64 .f32) (e : Vec F S64x8192 .f32) : refNearest (F := F) x e = nearest (F := F) x e := by
  unfold refNearest nearest
  rw [refArg_argFn, refDist_eq]

/-- The index list as the reference reads it: a negative word counts from the end. -/
def wrapped (i : Vec F S8x1024 .i32) : Vec F S8x1024x1 .i32 :=
  broadcastInDim S8x1024x1 ![0, 1] bcast_S8x1024_S8x1024x1_0_1
    (select (cmpi .slt i (broadcastInDim S8x1024 ![] bcast_S_S8x1024 (constantI S_ 32 0#32)))
      (addi i (broadcastInDim S8x1024 ![] bcast_S_S8x1024 (constantI S_ 32 8192#32))) i)

/-- Which positions hold a word within the table. -/
def inTable (k : Vec F S8x1024x1 .i32) : Vec F S8x1024 .i1 :=
  Host.reduce IntOp.andi
    (andi (cmpi .sge k (broadcastInDim S8x1024x1 ![] bcast_S_S8x1024x1 (constantI S_ 32 0#32)))
      (cmpi .sle k (broadcastInDim S8x1024x1 ![0, 1, 2] bcast_S1x1x1_S8x1024x1_0_1_2
        (broadcastInDim S1x1x1 ![2] bcast_S1_S1x1x1_2 (constantI S1 32 8191#32)))))
    (constantI S_ 1 1#1) reducesTo_S8x1024x1_S8x1024_d2 h_S_

/-- The rows of a table at a list of words, no value where a word lies outside it. -/
def taken (w : Vec F S8192x64 .f32) (i : Vec F S8x1024 .i32) : Vec F S8x1024x64 .f32 :=
  select (broadcastInDim S8x1024x64 ![0, 1] bcast_S8x1024_S8x1024x64_0_1 (inTable (F := F) (wrapped (F := F) i)))
    (Host.gather gather_S8192x64_S8x1024x1_S8x1024x64_2_0_n_n_0_2_164 w (wrapped (F := F) i))
    (broadcastInDim S8x1024x64 ![] bcast_S_S8x1024x64 (constant S_ .f32 0x7FC00000#32))

/-- The reference's first result, of its input and the rows taken. -/
def refOut (a t : Vec F S8x1024x64 .f32) : Vec F S8x1024x64 .f32 := addf a (subf t a)

/-- The mean of the squared differences. -/
def meanSq (a t : Vec F S8x1024x64 .f32) : Vec F S_ .f32 :=
  Host.divf (Host.reduceAdd (mulf (subf t a) (subf t a)) (constant S_ .f32 0x00000000#32) reducesTo_S8x1024x64_S_d0_1_2 h_S_)
    (constant S_ .f32 0x49000000#32)

/-- The reference's second result: the mean and a quarter of the mean. -/
def refLoss (a t : Vec F S8x1024x64 .f32) : Vec F S_ .f32 :=
  addf (meanSq a t) (mulf (constant S_ .f32 0x3E800000#32) (meanSq a t))

/-- The rows the reference takes, of its two arguments. -/
def refRows (a : Vec F S8x1024x64 .f32) (e : Vec F S64x8192 .f32) : Vec F S8x1024x64 .f32 :=
  taken (transpose S8192x64 [1, 0] e transposes_S64x8192_S8192x64_1_0)
    (shapeCast S8x1024 (refNearest (F := F) (shapeCast S8192x64 a shapeCasts_S8x1024x64_S8192x64) e) shapeCasts_S8192_S8x1024)

/-! ## The operations -/

/-- Through the index list. -/
def refA : List (HloOp τ sig (Elt F)) :=
  [StableHlo.reshape main_arg0 main_v0 (rfl : (.f32 : EltTy) = .f32) shapeCasts_S8x1024x64_S8192x64,
   StableHlo.binary main_v0 main_v0 main_v1 (mulf : (⟨S8192x64, .f32⟩ : BufTy).Contents (Elt F) → (⟨S8192x64, .f32⟩ : BufTy).Contents (Elt F) → (⟨S8192x64, .f32⟩ : BufTy).Contents (Elt F)),
   StableHlo.nullary main_cst (constant S_ .f32 0x00000000#32),
   StableHlo.binary main_v1 main_cst main_v2 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v2 main_v3 (broadcastInDim S8192x1 ![0] bcast_S8192_S8192x1_0 : (⟨S8192, .f32⟩ : BufTy).Contents (Elt F) → (⟨S8192x1, .f32⟩ : BufTy).Contents (Elt F)),
   StableHlo.binary main_v0 main_arg1 main_v4 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
   StableHlo.nullary main_cst_0 (constant S_ .f32 0x40000000#32),
   StableHlo.unary main_cst_0 main_v5 (broadcastInDim S8192x8192 ![] bcast_S_S8192x8192 : (⟨S_, .f32⟩ : BufTy).Contents (Elt F) → (⟨S8192x8192, .f32⟩ : BufTy).Contents (Elt F)),
   StableHlo.binary main_v5 main_v4 main_v6 (mulf : (⟨S8192x8192, .f32⟩ : BufTy).Contents (Elt F) → (⟨S8192x8192, .f32⟩ : BufTy).Contents (Elt F) → (⟨S8192x8192, .f32⟩ : BufTy).Contents (Elt F)),
   StableHlo.unary main_v3 main_v7 (broadcastInDim S8192x8192 ![0, 1] bcast_S8192x1_S8192x8192_0_1 : (⟨S8192x1, .f32⟩ : BufTy).Contents (Elt F) → (⟨S8192x8192, .f32⟩ : BufTy).Contents (Elt F)),
   StableHlo.binary main_v7 main_v6 main_v8 (subf : (⟨S8192x8192, .f32⟩ : BufTy).Contents (Elt F) → (⟨S8192x8192, .f32⟩ : BufTy).Contents (Elt F) → (⟨S8192x8192, .f32⟩ : BufTy).Contents (Elt F)),
   StableHlo.binary main_arg1 main_arg1 main_v9 (mulf : (⟨S64x8192, .f32⟩ : BufTy).Contents (Elt F) → (⟨S64x8192, .f32⟩ : BufTy).Contents (Elt F) → (⟨S64x8192, .f32⟩ : BufTy).Contents (Elt F)),
   StableHlo.nullary main_cst_1 (constant S_ .f32 0x00000000#32),
   StableHlo.binary main_v9 main_cst_1 main_v10 ((fun x v => Host.reduceAdd x v reducesTo_S64x8192_S8192_d0 h_S_) : (⟨S64x8192, .f32⟩ : BufTy).Contents (Elt F) → (⟨S_, .f32⟩ : BufTy).Contents (Elt F) → (⟨S8192, .f32⟩ : BufTy).Contents (Elt F)),
   StableHlo.unary main_v10 main_v11 (broadcastInDim S1x8192 ![1] bcast_S8192_S1x8192_1 : (⟨S8192, .f32⟩ : BufTy).Contents (Elt F) → (⟨S1x8192, .f32⟩ : BufTy).Contents (Elt F)),
   StableHlo.unary main_v11 main_v12 (broadcastInDim S8192x8192 ![0, 1] bcast_S1x8192_S8192x8192_0_1 : (⟨S1x8192, .f32⟩ : BufTy).Contents (Elt F) → (⟨S8192x8192, .f32⟩ : BufTy).Contents (Elt F)),
   StableHlo.binary main_v8 main_v12 main_v13 (addf : (⟨S8192x8192, .f32⟩ : BufTy).Contents (Elt F) → (⟨S8192x8192, .f32⟩ : BufTy).Contents (Elt F) → (⟨S8192x8192, .f32⟩ : BufTy).Contents (Elt F)),
   StableHlo.nullary main_call0_v0 (iotaInDim S8192x8192 32 1),
   StableHlo.nullary main_call0_cst (constant S_ .f32 0x7F800000#32),
   StableHlo.nullary main_call0_c (constantI S_ 32 0#32),
   StableHlo.quaternary main_v13 main_call0_v0 main_call0_cst main_call0_c main_call0_v1_0 (refMin : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .f32⟩ : BufTy).Contents (Elt F)),
   StableHlo.quaternary main_v13 main_call0_v0 main_call0_cst main_call0_c main_v14 (refArg : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .i32⟩ : BufTy).Contents (Elt F))]

/-- The index list's and the code table's layouts. -/
def refL : List (HloOp τ sig (Elt F)) :=
  [StableHlo.reshape main_v14 main_v15 (rfl : (.i32 : EltTy) = .i32) shapeCasts_S8192_S8x1024,
   StableHlo.unary main_arg1 main_v16 ((transpose S8192x64 [1, 0] · transposes_S64x8192_S8192x64_1_0) : (⟨S64x8192, .f32⟩ : BufTy).Contents (Elt F) → (⟨S8192x64, .f32⟩ : BufTy).Contents (Elt F))]

/-- The rows taken. -/
def refB : List (HloOp τ sig (Elt F)) :=
  [StableHlo.nullary main_call1_c (constantI S_ 32 0#32),
   StableHlo.unary main_call1_c main_call1_v0 ((broadcastInDim S8x1024 ![] bcast_S_S8x1024) : (⟨S_, .i32⟩ : BufTy).Contents (Elt F) → (⟨S8x1024, .i32⟩ : BufTy).Contents (Elt F)),
   StableHlo.binary main_v15 main_call1_v0 main_call1_v1 ((cmpi .slt) : (⟨S8x1024, .i32⟩ : BufTy).Contents (Elt F) → (⟨S8x1024, .i32⟩ : BufTy).Contents (Elt F) → (⟨S8x1024, .i1⟩ : BufTy).Contents (Elt F)),
   StableHlo.nullary main_call1_c_0 (constantI S_ 32 8192#32),
   StableHlo.unary main_call1_c_0 main_call1_v2 ((broadcastInDim S8x1024 ![] bcast_S_S8x1024) : (⟨S_, .i32⟩ : BufTy).Contents (Elt F) → (⟨S8x1024, .i32⟩ : BufTy).Contents (Elt F)),
   StableHlo.binary main_v15 main_call1_v2 main_call1_v3 (addi : (⟨S8x1024, .i32⟩ : BufTy).Contents (Elt F) → (⟨S8x1024, .i32⟩ : BufTy).Contents (Elt F) → (⟨S8x1024, .i32⟩ : BufTy).Contents (Elt F)),
   StableHlo.ternary main_call1_v1 main_call1_v3 main_v15 main_call1_v4 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
   StableHlo.unary main_call1_v4 main_call1_v5 ((broadcastInDim S8x1024x1 ![0, 1] bcast_S8x1024_S8x1024x1_0_1) : (⟨S8x1024, .i32⟩ : BufTy).Contents (Elt F) → (⟨S8x1024x1, .i32⟩ : BufTy).Contents (Elt F)),
   StableHlo.nullary main_call1_c_1 (constantI S1 32 8191#32),
   StableHlo.nullary main_call1_c_2 (constantI S_ 32 0#32),
   StableHlo.unary main_call1_c_2 main_call1_v6 ((broadcastInDim S8x1024x1 ![] bcast_S_S8x1024x1) : (⟨S_, .i32⟩ : BufTy).Contents (Elt F) → (⟨S8x1024x1, .i32⟩ : BufTy).Contents (Elt F)),
   StableHlo.binary main_call1_v5 main_call1_v6 main_call1_v7 ((cmpi .sge) : (⟨S8x1024x1, .i32⟩ : BufTy).Contents (Elt F) → (⟨S8x1024x1, .i32⟩ : BufTy).Contents (Elt F) → (⟨S8x1024x1, .i1⟩ : BufTy).Contents (Elt F)),
   StableHlo.unary main_call1_c_1 main_call1_v8 ((broadcastInDim S1x1x1 ![2] bcast_S1_S1x1x1_2) : (⟨S1, .i32⟩ : BufTy).Contents (Elt F) → (⟨S1x1x1, .i32⟩ : BufTy).Contents (Elt F)),
   StableHlo.unary main_call1_v8 main_call1_v9 ((broadcastInDim S8x1024x1 ![0, 1, 2] bcast_S1x1x1_S8x1024x1_0_1_2) : (⟨S1x1x1, .i32⟩ : BufTy).Contents (Elt F) → (⟨S8x1024x1, .i32⟩ : BufTy).Contents (Elt F)),
   StableHlo.binary main_call1_v5 main_call1_v9 main_call1_v10 ((cmpi .sle) : (⟨S8x1024x1, .i32⟩ : BufTy).Contents (Elt F) → (⟨S8x1024x1, .i32⟩ : BufTy).Contents (Elt F) → (⟨S8x1024x1, .i1⟩ : BufTy).Contents (Elt F)),
   StableHlo.binary main_call1_v7 main_call1_v10 main_call1_v11 (andi : (⟨S8x1024x1, .i1⟩ : BufTy).Contents (Elt F) → (⟨S8x1024x1, .i1⟩ : BufTy).Contents (Elt F) → (⟨S8x1024x1, .i1⟩ : BufTy).Contents (Elt F)),
   StableHlo.nullary main_call1_c_3 (constantI S_ 1 1#1),
   StableHlo.binary main_call1_v11 main_call1_c_3 main_call1_v12 ((fun x v => Host.reduce IntOp.andi x v reducesTo_S8x1024x1_S8x1024_d2 h_S_) : (⟨S8x1024x1, .i1⟩ : BufTy).Contents (Elt F) → (⟨S_, .i1⟩ : BufTy).Contents (Elt F) → (⟨S8x1024, .i1⟩ : BufTy).Contents (Elt F)),
   StableHlo.binary main_v16 main_call1_v5 main_call1_v13 ((fun x i => Host.gather gather_S8192x64_S8x1024x1_S8x1024x64_2_0_n_n_0_2_164 x i) : (⟨S8192x64, .f32⟩ : BufTy).Contents (Elt F) → (⟨S8x1024x1, .i32⟩ : BufTy).Contents (Elt F) → (⟨S8x1024x64, .f32⟩ : BufTy).Contents (Elt F)),
   StableHlo.unary main_call1_v12 main_call1_v14 ((broadcastInDim S8x1024x64 ![0, 1] bcast_S8x1024_S8x1024x64_0_1) : (⟨S8x1024, .i1⟩ : BufTy).Contents (Elt F) → (⟨S8x1024x64, .i1⟩ : BufTy).Contents (Elt F)),
   StableHlo.nullary main_call1_cst (constant S_ .f32 0x7FC00000#32),
   StableHlo.unary main_call1_cst main_call1_v15 ((broadcastInDim S8x1024x64 ![] bcast_S_S8x1024x64) : (⟨S_, .f32⟩ : BufTy).Contents (Elt F) → (⟨S8x1024x64, .f32⟩ : BufTy).Contents (Elt F)),
   StableHlo.ternary main_call1_v14 main_call1_v13 main_call1_v15 main_v17 (select : (⟨S8x1024x64, .i1⟩ : BufTy).Contents (Elt F) → (⟨S8x1024x64, .f32⟩ : BufTy).Contents (Elt F) → (⟨S8x1024x64, .f32⟩ : BufTy).Contents (Elt F) → (⟨S8x1024x64, .f32⟩ : BufTy).Contents (Elt F))]

/-- The two results. -/
def refC : List (HloOp τ sig (Elt F)) :=
  [StableHlo.binary main_v17 main_arg0 main_v18 (subf : (⟨S8x1024x64, .f32⟩ : BufTy).Contents (Elt F) → (⟨S8x1024x64, .f32⟩ : BufTy).Contents (Elt F) → (⟨S8x1024x64, .f32⟩ : BufTy).Contents (Elt F)),
   StableHlo.binary main_v18 main_v18 main_v19 (mulf : (⟨S8x1024x64, .f32⟩ : BufTy).Contents (Elt F) → (⟨S8x1024x64, .f32⟩ : BufTy).Contents (Elt F) → (⟨S8x1024x64, .f32⟩ : BufTy).Contents (Elt F)),
   StableHlo.nullary main_cst_2 (constant S_ .f32 0x00000000#32),
   StableHlo.binary main_v19 main_cst_2 main_v20 ((fun x v => Host.reduceAdd x v reducesTo_S8x1024x64_S_d0_1_2 h_S_) : (⟨S8x1024x64, .f32⟩ : BufTy).Contents (Elt F) → (⟨S_, .f32⟩ : BufTy).Contents (Elt F) → (⟨S_, .f32⟩ : BufTy).Contents (Elt F)),
   StableHlo.nullary main_cst_3 (constant S_ .f32 0x49000000#32),
   StableHlo.binary main_v20 main_cst_3 main_v21 (Host.divf : (⟨S_, .f32⟩ : BufTy).Contents (Elt F) → (⟨S_, .f32⟩ : BufTy).Contents (Elt F) → (⟨S_, .f32⟩ : BufTy).Contents (Elt F)),
   StableHlo.binary main_v17 main_arg0 main_v22 (subf : (⟨S8x1024x64, .f32⟩ : BufTy).Contents (Elt F) → (⟨S8x1024x64, .f32⟩ : BufTy).Contents (Elt F) → (⟨S8x1024x64, .f32⟩ : BufTy).Contents (Elt F)),
   StableHlo.binary main_v22 main_v22 main_v23 (mulf : (⟨S8x1024x64, .f32⟩ : BufTy).Contents (Elt F) → (⟨S8x1024x64, .f32⟩ : BufTy).Contents (Elt F) → (⟨S8x1024x64, .f32⟩ : BufTy).Contents (Elt F)),
   StableHlo.nullary main_cst_4 (constant S_ .f32 0x00000000#32),
   StableHlo.binary main_v23 main_cst_4 main_v24 ((fun x v => Host.reduceAdd x v reducesTo_S8x1024x64_S_d0_1_2 h_S_) : (⟨S8x1024x64, .f32⟩ : BufTy).Contents (Elt F) → (⟨S_, .f32⟩ : BufTy).Contents (Elt F) → (⟨S_, .f32⟩ : BufTy).Contents (Elt F)),
   StableHlo.nullary main_cst_5 (constant S_ .f32 0x49000000#32),
   StableHlo.binary main_v24 main_cst_5 main_v25 (Host.divf : (⟨S_, .f32⟩ : BufTy).Contents (Elt F) → (⟨S_, .f32⟩ : BufTy).Contents (Elt F) → (⟨S_, .f32⟩ : BufTy).Contents (Elt F)),
   StableHlo.nullary main_cst_6 (constant S_ .f32 0x3E800000#32),
   StableHlo.binary main_cst_6 main_v25 main_v26 (mulf : (⟨S_, .f32⟩ : BufTy).Contents (Elt F) → (⟨S_, .f32⟩ : BufTy).Contents (Elt F) → (⟨S_, .f32⟩ : BufTy).Contents (Elt F)),
   StableHlo.binary main_v21 main_v26 main_v27 (addf : (⟨S_, .f32⟩ : BufTy).Contents (Elt F) → (⟨S_, .f32⟩ : BufTy).Contents (Elt F) → (⟨S_, .f32⟩ : BufTy).Contents (Elt F)),
   StableHlo.binary main_v17 main_arg0 main_v28 (subf : (⟨S8x1024x64, .f32⟩ : BufTy).Contents (Elt F) → (⟨S8x1024x64, .f32⟩ : BufTy).Contents (Elt F) → (⟨S8x1024x64, .f32⟩ : BufTy).Contents (Elt F)),
   StableHlo.binary main_arg0 main_v28 main_v29 (addf : (⟨S8x1024x64, .f32⟩ : BufTy).Contents (Elt F) → (⟨S8x1024x64, .f32⟩ : BufTy).Contents (Elt F) → (⟨S8x1024x64, .f32⟩ : BufTy).Contents (Elt F))]

/-- The program's operations in order. -/
abbrev refOps : List (HloOp τ sig (Elt F)) := refA ++ (refL ++ (refB ++ refC))

set_option maxRecDepth 10000 in
theorem ref_main_eq (d : Dev nD) : main (F := F) d = StableHlo.seq (refOps (F := F)) := by
  rw [StableHlo.seq_append, StableHlo.seq_append, StableHlo.seq_append]
  simp only [main, fn_argmin.body, fn_take.body, fn_where.body, refA, refL, refB, refC, StableHlo.seq, bind_assoc, pure_bind,
    refArg_eq, refMin_eq]
  rfl

theorem ref_after_append (L L' : List (HloOp τ sig (Elt F))) : ∀ V : Valuation τ sig (Elt F), after (L ++ L') V = after L' (after L V) := by
  induction L with
  | nil => intro V; rfl
  | cons op L ih => intro V; rw [List.cons_append, StableHlo.after_cons, StableHlo.after_cons, ih]

theorem ref_after (V : Valuation τ sig (Elt F)) : after refOps V = after refC (after refB (after refL (after refA V))) := by
  rw [ref_after_append, ref_after_append, ref_after_append]

/-! ## What they leave -/

section Values

variable (V : Valuation τ sig (Elt F))

theorem refA_v14 : after refA V (Proc.devRef .tc main_v14)
    = refNearest (F := F) (shapeCast S8192x64 (V (Proc.devRef .tc main_arg0)) shapeCasts_S8x1024x64_S8192x64)
        (V (Proc.devRef .tc main_arg1)) := by
  unfold refA refNearest refDist
  after_results_simp
  rfl
theorem refA_arg0 : after refA V (Proc.devRef .tc main_arg0) = V (Proc.devRef .tc main_arg0) := by
  unfold refA
  after_results_simp
theorem refA_arg1 : after refA V (Proc.devRef .tc main_arg1) = V (Proc.devRef .tc main_arg1) := by
  unfold refA
  after_results_simp

theorem refL_v15 : after refL V (Proc.devRef .tc main_v15) = shapeCast S8x1024 (V (Proc.devRef .tc main_v14)) shapeCasts_S8192_S8x1024 := by
  unfold refL
  after_results_simp
  rfl
theorem refL_v16 : after refL V (Proc.devRef .tc main_v16)
    = transpose S8192x64 [1, 0] (V (Proc.devRef .tc main_arg1)) transposes_S64x8192_S8192x64_1_0 := by
  unfold refL
  after_results_simp
theorem refL_arg0 : after refL V (Proc.devRef .tc main_arg0) = V (Proc.devRef .tc main_arg0) := by
  unfold refL
  after_results_simp
theorem refL_arg1 : after refL V (Proc.devRef .tc main_arg1) = V (Proc.devRef .tc main_arg1) := by
  unfold refL
  after_results_simp

theorem refB_v17 : after refB V (Proc.devRef .tc main_v17)
    = taken (F := F) (V (Proc.devRef .tc main_v16)) (V (Proc.devRef .tc main_v15)) := by
  unfold refB taken inTable wrapped
  after_results_simp
theorem refB_arg0 : after refB V (Proc.devRef .tc main_arg0) = V (Proc.devRef .tc main_arg0) := by
  unfold refB
  after_results_simp
theorem refB_arg1 : after refB V (Proc.devRef .tc main_arg1) = V (Proc.devRef .tc main_arg1) := by
  unfold refB
  after_results_simp

theorem refC_v29 : after refC V (Proc.devRef .tc main_v29)
    = refOut (F := F) (V (Proc.devRef .tc main_arg0)) (V (Proc.devRef .tc main_v17)) := by
  unfold refC refOut
  after_results_simp
theorem refC_v27 : after refC V (Proc.devRef .tc main_v27)
    = refLoss (F := F) (V (Proc.devRef .tc main_arg0)) (V (Proc.devRef .tc main_v17)) := by
  unfold refC refLoss meanSq
  after_results_simp
theorem refC_arg0 : after refC V (Proc.devRef .tc main_arg0) = V (Proc.devRef .tc main_arg0) := by
  unfold refC
  after_results_simp
theorem refC_arg1 : after refC V (Proc.devRef .tc main_arg1) = V (Proc.devRef .tc main_arg1) := by
  unfold refC
  after_results_simp

end Values

/-! ## The run -/

theorem ref_bufs : (refOps (F := F)).Forall fun op => op.bufs ⊆ StableHlo.tcRefs τ sig := by
  rw [List.forall_iff_forall_mem]
  simp [refOps, refA, refL, refB, refC]

theorem ref_fresh : ∀ op ∈ refOps (F := F), op.fresh = ∅ := by
  intro op h
  rcases List.mem_append.mp h with h | h
  · unfold refA at h
    repeat (cases h with | head => rfl | tail _ h => ?_)
    exact nomatch h
  rcases List.mem_append.mp h with h | h
  · unfold refL at h
    repeat (cases h with | head => rfl | tail _ h => ?_)
    exact nomatch h
  rcases List.mem_append.mp h with h | h
  · unfold refB at h
    repeat (cases h with | head => rfl | tail _ h => ?_)
    exact nomatch h
  · unfold refC at h
    repeat (cases h with | head => rfl | tail _ h => ?_)
    exact nomatch h

theorem ref_no_scoped_refs : (Finset.univ.filter fun b : Ref sig .tc => b.isScoped) = ∅ := by decide
theorem ref_no_scoped_sems : (Finset.univ.filter fun sm : SemLoc sig => sm.isScoped .tc) = ∅ := by decide

/-- Every run of the reference ends with the results named above, its arguments as they were, every semaphore at zero. -/
theorem run_reference (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_v29)
            = refOut (m ((c.tc : Thread nD τ).loc main_arg0))
                (refRows (F := F) (m ((c.tc : Thread nD τ).loc main_arg0)) (m ((c.tc : Thread nD τ).loc main_arg1)))
        ∧ r.2.mem ((c.tc : Thread nD τ).loc main_v27)
            = refLoss (m ((c.tc : Thread nD τ).loc main_arg0))
                (refRows (F := F) (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run (defs (F := F)) _ _).mono (fun r h => ?_)
    (StableHlo.run_seq ref_no_scoped_refs ref_no_scoped_sems (defs (F := F)) (main (F := F)) (fun _ => refOps)
      ref_main_eq (fun _ => ref_bufs) m ρ (fun _ => ref_fresh))
  refine ⟨fun c => ⟨?_, ?_, ?_, ?_⟩, sem_eq_zero_of_no_sems (by decide) r.2⟩
  · rw [h, ref_after, refC_v29, refB_v17, refB_arg0, refL_v15, refL_v16, refL_arg0, refA_v14, refA_arg0, refA_arg1]
    rfl
  · rw [h, ref_after, refC_v27, refB_v17, refB_arg0, refL_v15, refL_v16, refL_arg0, refA_v14, refA_arg0, refA_arg1]
    rfl
  · rw [h, ref_after, refC_arg0, refB_arg0, refL_arg0, refA_arg0]
  · rw [h, ref_after, refC_arg1, refB_arg1, refL_arg1, refA_arg1]

theorem frame_reference : Cert.quiescent_ReferenceIdeal := fun m ρ _ =>
  (θ_run (Cert.ReferenceIdeal.defs (F := Ideal)) _ _).mono (fun _ h => ⟨fun c => (h.1 c).2.2, h.2⟩)
    (run_reference (F := Ideal) m ρ)

end Cert.Proof.Vq

end
-- ==== Proof.Rows.lean ====
/-
  THE ROWS, ONE ELEMENT AT A TIME. The kernel program gathers the rows of a table whose rows are the columns of the code
  table followed by 64 zeros, and drops the zeros again; the reference takes rows of the same table without them, at the
  same words. Both come to one thing: row `r` is column `nearest r` of the code table. So the reference's rows are the
  kernel program's, laid out in three axes, and the first results agree.
-/
module

public import proofs.«01_k».proof.Proof.Results
public import proofs.«01_k».proof.Proof.Reference
public import Idealize.ShloMosaic.Lib.Pipeline.Value
public import Idealize.ShloMosaic.Lib.KernelVsHost
public import Idealize.ShloMosaic.Lib.ReduceAll
public import Idealize.ShloMosaic.Lib.ValueIdxCore
public import Idealize.ShloMosaic.Lib.StableHlo.Predicate

@[expose] public section

noncomputable section

namespace Cert.Proof.Vq

open Cert.ReferenceIdeal Cert.ReferenceIdeal.Gen

open Idealize.ShloMosaic Idealize.ShloMosaic.TcCoe
open Idealize.ShloMosaic.ValueIdx (eq_zero_of_ne_one)

variable {F : FTy → Type} [FloatOps F]

/-! ## The kernel program's rows -/

/-- A word below 8192, as a column of the code table. -/
abbrev column (w : BitVec 32) (h : w.toNat < 8192) : Fin 8192 := ⟨w.toNat, h⟩

/-- The table's first 64 columns are the code table, its columns as rows. -/
theorem table_apply (e : Vec F S64x8192 .f32) (k : Fin 8192) (c : Fin 64) :
    table (F := F) e (ix2 k ⟨c.val, lt_trans c.isLt (by decide)⟩) = e (ix2 c k) := by
  unfold table
  rw [pad_apply_of_inside (k := (ix2 k c : S8192x64.Idx))]
  · exact transpose_apply _ _ _ _ _ fun b => by
      match b with
      | ⟨0, _⟩ => rfl
      | ⟨1, _⟩ => rfl
  · intro a
    match a with
    | ⟨0, _⟩ => show k.val = 0 + k.val * (0 + 1); omega
    | ⟨1, _⟩ => show c.val = 0 + c.val * (0 + 1); omega

/-- The gather, read at an element. -/
theorem gathered_apply (T : Vec F Cert.KernelIdeal.S8192x128 .f32) (I : Vec F S8192 .i32) (hI : ∀ j, (I j).toNat < 8192)
    (r : Fin 8192) (c : Fin 128) : gathered (F := F) T I (ix2 r c) = T (ix2 (column (I (ix1 r)) (hI _)) c) := by
  unfold gathered
  refine congrArg T (funext fun a => ?_)
  match a with
  | ⟨0, _⟩ =>
    refine Fin.ext (Eq.trans (congrArg (fun j => (I j).toNat % 8192) (?_ : _ = ix1 r)) (Nat.mod_eq_of_lt (hI (ix1 r))))
    funext b
    match b with
    | ⟨0, _⟩ => rfl
  | ⟨1, _⟩ => rfl

/-- The first 64 columns, read at an element. -/
theorem first_columns_apply (T : Vec F Cert.KernelIdeal.S8192x128 .f32) (r : Fin 8192) (c : Fin 64) :
    extractStridedSlice S8192x64 ![0, 0] T Cert.KernelIdeal.Gen.facts.slices_S8192x128_S8192x64_0_0 (ix2 r c)
      = T (ix2 r ⟨c.val, lt_trans c.isLt (by decide)⟩) := by
  unfold extractStridedSlice
  refine congrArg T (funext fun a => ?_)
  match a with
  | ⟨0, _⟩ => exact Fin.ext (Nat.zero_add _)
  | ⟨1, _⟩ => exact Fin.ext (Nat.zero_add _)

theorem quant_apply (x : Vec F S8192x64 .f32) (e : Vec F S64x8192 .f32) (r : Fin 8192) (c : Fin 64) :
    quant (F := F) x e (ix2 r c) = e (ix2 c (column (nearest x e (ix1 r)) (nearest_lt x e _))) := by
  unfold quant
  rw [first_columns_apply, gathered_apply _ _ (nearest_lt x e)]
  exact table_apply e _ c

/-! ## The reference's rows -/

/-- A word below 8192 is not negative: the reference reads it as it is. -/
theorem wrapped_apply (i : Vec F S8x1024 .i32) (hi : ∀ j, (i j).toNat < 8192) (b : Fin 8) (n : Fin 1024) (z : Fin 1) :
    wrapped (F := F) i (ix3 b n z) = i (ix2 b n) := by
  unfold wrapped
  rw [broadcastInDim_apply (k := (ix2 b n : S8x1024.Idx))]
  · show Scalar.select (IntOp.cmpi .slt (i (ix2 b n)) 0#32) _ _ = _
    have h : ¬ IntOp.cmpi .slt (i (ix2 b n)) 0#32 = 1#1 := fun h => by
      have := (StableHlo.Predicate.slt_iff_toNat (lt_trans (hi _) (by decide)) (by decide)).mp h
      simp at this
    rw [eq_zero_of_ne_one h]
    rfl
  · intro a
    match a with
    | ⟨0, _⟩ => rfl
    | ⟨1, _⟩ => rfl

/-- Every word is within the table. -/
theorem inTable_apply (k : Vec F S8x1024x1 .i32) (hk : ∀ j, (k j).toNat < 8192) (j : S8x1024.Idx) :
    inTable (F := F) k j = 1#1 := by
  unfold inTable
  refine Host.reduce_andi_one _ _ _ _ _ rfl fun i => ?_
  show IntOp.andi (IntOp.cmpi .sge (k i) 0#32) (IntOp.cmpi .sle (k i) 8191#32) = 1#1
  have h1 : IntOp.cmpi .sge (k i) 0#32 = 1#1 :=
    (StableHlo.Predicate.sge_iff_toNat (lt_trans (hk _) (by decide)) (by decide)).mpr (Nat.zero_le _)
  have h2 : IntOp.cmpi .sle (k i) 8191#32 = 1#1 :=
    (StableHlo.Predicate.sle_iff_toNat (lt_trans (hk _) (by decide)) (by decide)).mpr (by have := hk i; show (k i).toNat ≤ 8191; omega)
  rw [h1, h2]; rfl

/-- The reference's gather reads, for position `(b, n)`, the row its word there names. -/
theorem gather_apply (w : Vec F S8192x64 .f32) (k : Vec F S8x1024x1 .i32) (b : Fin 8) (n : Fin 1024) (c : Fin 64)
    (h : (k (ix3 b n 0)).toNat < 8192) :
    Host.gather gather_S8192x64_S8x1024x1_S8x1024x64_2_0_n_n_0_2_164 w k (ix3 b n c) = w (ix2 (column (k (ix3 b n 0)) h) c) := by
  set d := gather_S8192x64_S8x1024x1_S8x1024x64_2_0_n_n_0_2_164 with hd
  unfold Host.gather
  refine congrArg w (funext fun a => Fin.ext ?_)
  match a with
  | ⟨0, _⟩ =>
    show d.start (ix3 b n c) k 0 + d.batchCoord (ix3 b n c) 0 + d.offCoord (ix3 b n c) 0 = (k (ix3 b n 0)).toNat
    rw [d.batchCoord_eq_zero _ _ List.not_mem_nil,
      d.offCoord_eq_zero _ _ (fun h => ((d.mem_sKept _).mp h).1 (List.mem_singleton.mpr rfl))]
    simp only [Nat.add_zero]
    unfold GatherDims.start
    rw [dif_pos (show (0 : Fin 2) ∈ d.startIndexMap from List.mem_singleton.mpr rfl)]
    have hsi : d.siIdx (ix3 b n c) ⟨List.idxOf (0 : Fin 2) d.startIndexMap,
        List.idxOf_lt_length_iff.2 (List.mem_singleton.mpr rfl)⟩ = (ix3 b n 0 : S8x1024x1.Idx) := by
      funext y; refine Fin.ext ?_
      match y with
      | ⟨0, _⟩ => rfl
      | ⟨1, _⟩ => rfl
      | ⟨2, _⟩ => rfl
    rw [hsi, StableHlo.Predicate.toInt_eq_toNat_of_lt (lt_trans h (by decide))]
    show min (k (ix3 b n 0)).toNat (8192 - 1) = _
    omega
  | ⟨1, _⟩ =>
    show d.start (ix3 b n c) k 1 + d.batchCoord (ix3 b n c) 1 + d.offCoord (ix3 b n c) 1 = c.val
    rw [d.batchCoord_eq_zero _ _ List.not_mem_nil]
    unfold GatherDims.start
    rw [dif_neg (show (1 : Fin 2) ∉ d.startIndexMap from by decide)]
    simp only [Nat.add_zero, Nat.zero_add]
    unfold GatherDims.offCoord
    rw [dif_pos (show (1 : Fin 2) ∈ d.sKept from by decide)]
    rfl

theorem taken_apply (w : Vec F S8192x64 .f32) (i : Vec F S8x1024 .i32) (hi : ∀ j, (i j).toNat < 8192) (b : Fin 8) (n : Fin 1024)
    (c : Fin 64) : taken (F := F) w i (ix3 b n c) = w (ix2 (column (i (ix2 b n)) (hi _)) c) := by
  have hw : ∀ j, (wrapped (F := F) i j).toNat < 8192 := fun j => by
    rw [eq_ix3 j]; erw [wrapped_apply i hi]; exact hi _
  have hg := gather_apply (F := F) w (wrapped (F := F) i) b n c (hw _)
  unfold taken
  show Scalar.select (broadcastInDim S8x1024x64 ![0, 1] _ (inTable (F := F) (wrapped (F := F) i)) (ix3 b n c)) _ _ = _
  rw [show broadcastInDim S8x1024x64 ![0, 1] bcast_S8x1024_S8x1024x64_0_1 (inTable (F := F) (wrapped (F := F) i)) (ix3 b n c) = 1#1
    from inTable_apply _ hw _]
  refine hg.trans (congrArg (fun k => w (ix2 k c)) (Fin.ext ?_))
  exact congrArg BitVec.toNat (wrapped_apply i hi b n 0)

/-- Rows taken of the code table's columns, at a list of words below 8192 cut into 8 groups of 1024. -/
theorem taken_row (N : Vec F S8192 .i32) (e : Vec F S64x8192 .f32) (N' : Vec F S8x1024 .i32) (hlt : ∀ j, (N j).toNat < 8192)
    (hN : N' = shapeCast S8x1024 N shapeCasts_S8192_S8x1024) (b : Fin 8) (n : Fin 1024) (c : Fin 64) (r : Fin 8192)
    (hr : r.val = b.val * 1024 + n.val) :
    taken (F := F) (transpose S8192x64 [1, 0] e transposes_S64x8192_S8192x64_1_0) N' (ix3 b n c)
      = e (ix2 c (column (N (ix1 r)) (hlt _))) := by
  have h : N' (ix2 b n) = N (ix1 r) := hN ▸ shapeCast_apply N shapeCasts_S8192_S8x1024 (ix2 b n) (ix1 r) (by
    rw [Shape.rowMajor_val_one, Shape.rowMajor_val_two]; exact hr)
  rw [taken_apply _ _ (fun j => hN ▸ hlt _)]
  refine transpose_apply _ _ _ _ _ fun y => ?_
  match y with
  | ⟨0, _⟩ => show (N (ix1 r)).toNat = (N' (ix2 b n)).toNat; rw [h]
  | ⟨1, _⟩ => rfl

/-- Row `r` of 8192 as one of 8 groups of 1024. -/
theorem refRows_apply (a : Vec F S8x1024x64 .f32) (e : Vec F S64x8192 .f32) (b : Fin 8) (n : Fin 1024) (c : Fin 64) :
    refRows (F := F) a e (ix3 b n c)
      = quant (F := F) (shapeCast S8192x64 a shapeCasts_S8x1024x64_S8192x64) e (ix2 ⟨b.val * 1024 + n.val, by omega⟩ c) := by
  unfold refRows
  rw [refNearest_eq, quant_apply]
  exact taken_row _ e _ (nearest_lt _ e) rfl b n c _ rfl

/-- The reference's rows are the kernel program's. -/
theorem refRows_eq (a : Vec F S8x1024x64 .f32) (e : Vec F S64x8192 .f32) :
    refRows (F := F) a e
      = shapeCast S8x1024x64 (quant (F := F) (shapeCast S8192x64 a shapeCasts_S8x1024x64_S8192x64) e)
          Cert.KernelIdeal.Gen.facts.shapeCasts_S8192x64_S8x1024x64 := by
  funext j
  rw [eq_ix3 j]
  erw [refRows_apply]
  refine (shapeCast_apply _ _ _ _ ?_).symm
  rw [Shape.rowMajor_val_two, Shape.rowMajor_val_three]
  rfl

/-- The first results agree. -/
theorem result0_eq (a : Vec F S8x1024x64 .f32) (e : Vec F S64x8192 .f32) :
    result0 (F := F) (shapeCast S8192x64 a shapeCasts_S8x1024x64_S8192x64) e = refOut a (refRows a e) := by
  rw [refRows_eq]
  unfold result0 refOut
  generalize quant (F := F) (shapeCast S8192x64 a shapeCasts_S8x1024x64_S8192x64) e = q
  have h := shapeCast_shapeCast a shapeCasts_S8x1024x64_S8192x64 Cert.KernelIdeal.Gen.facts.shapeCasts_S8192x64_S8x1024x64
  funext j
  have hj := congrFun h j
  show FloatOps.addf (shapeCast S8x1024x64 (shapeCast S8192x64 a _) _ j) (FloatOps.subf (shapeCast S8x1024x64 q _ j)
    (shapeCast S8x1024x64 (shapeCast S8192x64 a _) _ j)) = _
  rw [hj]
  rfl

end Cert.Proof.Vq

end
-- ==== Proof.Loss.lean ====
/-
  THE LOSS. The kernel program adds, block after block of 512 rows, the block's squared differences times 1.25 / 2^19;
  the reference divides the sum of all squared differences by 2^19 and adds a quarter of that. A square is not negative,
  so in the extended reals a constant distributes over these sums, and the two agree at every input, infinite values
  included.
-/
module

public import proofs.«01_k».proof.Proof.Rows
public import Idealize.ShloMosaic.Lib.IdealHost
public import Idealize.ShloMosaic.PureOps.Ideal.Laws

@[expose] public section

noncomputable section

open scoped BigOperators

namespace Cert.Proof.Vq

open Cert.KernelIdeal Cert.KernelIdeal.Gen

open Idealize.ShloMosaic Idealize.ShloMosaic.TcCoe

/-! ## Sums in the extended reals -/

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- A sum of values not negative, times a constant. -/
theorem sum_mul_of_nonneg {ι : Type} (S : Finset ι) (f : ι → EReal) (hf : ∀ i, 0 ≤ f i) (c : EReal) :
    ∑ i ∈ S, f i * c = (∑ i ∈ S, f i) * c := by
  classical
  induction S using Finset.induction_on with
  | empty => simp
  | insert i S hi ih =>
    rw [Finset.sum_insert hi, Finset.sum_insert hi, ih, EReal.right_distrib_of_nonneg (hf i) (Finset.sum_nonneg fun j _ => hf j)]

/-! ## The constants -/

/-- 1.25 / 2^19. -/
theorem weight_eq : Ideal.ofBits .f32 0x36200000#32 = ((5 / 2097152 : ℝ) : EReal) := by
  simp [Ideal.ofBits, Ideal.ieee, -EReal.coe_mul]; norm_num
/-- 2^19. -/
theorem count_eq : Ideal.ofBits .f32 0x49000000#32 = ((524288 : ℝ) : EReal) := by
  simp [Ideal.ofBits, Ideal.ieee, -EReal.coe_mul]; norm_num
/-- A quarter. -/
theorem quarter_eq : Ideal.ofBits .f32 0x3E800000#32 = ((1 / 4 : ℝ) : EReal) := by
  simp [Ideal.ofBits, Ideal.ieee, -EReal.coe_mul]; norm_num

/-- The mean and a quarter of the mean is the sum times 1.25 / 2^19. -/
theorem mean_and_quarter (T : EReal) :
    Ideal.div T ((524288 : ℝ) : EReal) + ((1 / 4 : ℝ) : EReal) * Ideal.div T ((524288 : ℝ) : EReal) = T * ((5 / 2097152 : ℝ) : EReal) := by
  have hd : Ideal.div T ((524288 : ℝ) : EReal) = T * ((1 / 524288 : ℝ) : EReal) := by
    unfold Ideal.div
    rw [if_neg (by norm_cast), ← EReal.coe_inv]
    norm_num
  rw [hd, mul_left_comm, ← EReal.coe_mul, ← EReal.left_distrib_of_nonneg (by norm_cast; norm_num) (by norm_cast; norm_num),
    ← EReal.coe_add]
  norm_num

/-! ## The kernel program's loss -/

/-- The squared difference at an element. -/
def sq (q x : Vec Ideal S8192x64 .f32) (i : S8192x64.Idx) : EReal := (q i - x i) * (q i - x i)

theorem sq_nonneg' (q x : Vec Ideal S8192x64 .f32) (i : S8192x64.Idx) : 0 ≤ sq q x i := square_nonneg _

/-- Row `r` of block `t`. -/
def rowOf (t : Fin 16) (r : Fin 512) : Fin 8192 := ⟨512 * t.val + r.val, by omega⟩

theorem blockOf_apply (a : Vec Ideal S8192x64 .f32) (t : Fin cfg1.N) (r : Fin 512) (c : Fin 64) :
    blockOf a t (ix2 r c) = a (ix2 (rowOf (t.cast N_1) r) c) := by
  refine congrArg a (funext fun y => Fin.ext ?_)
  match y with
  | ⟨0, _⟩ =>
    have ht : (cc1_transform_0 (grid1.coords t) 0) = t.val := by
      revert t; decide +kernel
    show (cc1_transform_0 (grid1.coords t) 0) * 512 + 1 * r.val = 512 * t.val + r.val
    omega
  | ⟨1, _⟩ =>
    show 0 * 64 + 1 * c.val = c.val
    omega

/-- The squared differences of block `t`. -/
def blockSum (q x : Vec Ideal S8192x64 .f32) (t : Fin 16) : EReal := ∑ r : Fin 512, ∑ c : Fin 64, sq q x (ix2 (rowOf t r) c)

theorem blockSum_nonneg (q x : Vec Ideal S8192x64 .f32) (t : Fin 16) : 0 ≤ blockSum q x t :=
  Finset.sum_nonneg fun _ _ => Finset.sum_nonneg fun _ _ => sq_nonneg' _ _ _

/-- One point's step, of any two blocks. -/
theorem lossStep_apply (q x : Vec Ideal S512x64 .f32) (s : Vec Ideal S1x1 .f32) (j : S1x1.Idx) :
    lossStep (F := Ideal) q x s j = s j + (∑ i : S512x64.Idx, (q i - x i) * (q i - x i)) * ((5 / 2097152 : ℝ) : EReal) := by
  have h := Ideal.multiReduction_add_total (φ := .f32) (axes := [1, 2]) (t := S1)
    (shapeCast S1x512x64 (mulf (F := Ideal) (subf q x) (subf q x)) shapeCasts_S512x64_S1x512x64)
    0x00000000#32 reduces_S1x512x64_S1 (by decide) (.inl rfl) rfl
  unfold lossStep k1_pay5 k1_pay1 k1_pay2
  simp only [shapeCast_self]
  rw [← weight_eq]
  refine congrArg (fun v => s j + v * Ideal.ofBits .f32 0x36200000#32) ?_
  refine (h _).trans ?_
  exact Equiv.sum_comp (Shape.reshapeEquiv shapeCasts_S512x64_S1x512x64) fun i => (q i - x i) * (q i - x i)

theorem lossStep_block (q x : Vec Ideal S8192x64 .f32) (t : Fin cfg1.N) (s : Vec Ideal S1x1 .f32) (j : S1x1.Idx) :
    lossStep (F := Ideal) (blockOf q t) (blockOf x t) s j = s j + blockSum q x (t.cast N_1) * ((5 / 2097152 : ℝ) : EReal) := by
  rw [lossStep_apply, ValueIdx.sum_idx2]
  unfold blockSum sq
  refine congrArg (fun v => s j + v * ((5 / 2097152 : ℝ) : EReal)) (Finset.sum_congr rfl fun r _ => Finset.sum_congr rfl fun c _ => ?_)
  have hq := blockOf_apply q t r c
  have hx := blockOf_apply x t r c
  exact congrArg₂ (fun u v : EReal => (u - v) * (u - v)) hq hx

/-- The loss after point `n`: the weighted sums of the blocks through `n`. -/
theorem lossOf_apply (q x : Vec Ideal S8192x64 .f32) (j : S1x1.Idx) : ∀ (n : ℕ) (h : n < cfg1.N),
    lossOf (F := Ideal) q x n h j
      = ∑ t ∈ Finset.univ.filter (fun t : Fin 16 => t.val ≤ n), blockSum q x t * ((5 / 2097152 : ℝ) : EReal)
  | 0, h => by
    unfold lossOf
    rw [lossStep_block]
    have hf : Finset.univ.filter (fun t : Fin 16 => t.val ≤ 0) = {(0 : Fin 16)} := by decide
    rw [hf, Finset.sum_singleton]
    have hz : zeroLoss (F := Ideal) j = 0 := Ideal.ofBits_zero_f32
    rw [hz, zero_add]
    rfl
  | n + 1, h => by
    unfold lossOf
    have h16 : n + 1 < 16 := lt_of_lt_of_eq h N_1
    rw [lossStep_block, lossOf_apply q x j n]
    have hf : Finset.univ.filter (fun t : Fin 16 => t.val ≤ n + 1)
        = insert (⟨n + 1, h16⟩ : Fin 16) (Finset.univ.filter (fun t : Fin 16 => t.val ≤ n)) := by
      ext t
      simp only [Finset.mem_filter, Finset.mem_univ, true_and, Finset.mem_insert, Fin.ext_iff]
      omega
    rw [hf, Finset.sum_insert (by simp), add_comm]
    rfl

/-- The blocks' rows are the rows. -/
theorem blocks_total (f : Fin 8192 → EReal) : ∑ t : Fin 16, ∑ r : Fin 512, f (rowOf t r) = ∑ r : Fin 8192, f r := by
  rw [← Fintype.sum_prod_type']
  rw [← Equiv.sum_comp (finProdFinEquiv (m := 16) (n := 512)) f]
  refine Finset.sum_congr rfl fun p _ => congrArg f (Fin.ext ?_)
  show 512 * p.1.val + p.2.val = p.2.val + 512 * p.1.val
  omega

/-- The kernel program's loss: all squared differences, weighted. -/
theorem loss_kernel (q x : Vec Ideal S8192x64 .f32) (h : 15 < cfg1.N) (j : S1x1.Idx) :
    lossOf (F := Ideal) q x 15 h j = (∑ i : S8192x64.Idx, sq q x i) * ((5 / 2097152 : ℝ) : EReal) := by
  rw [lossOf_apply, Finset.filter_true_of_mem (fun t _ => by have := t.isLt; omega), sum_mul_of_nonneg _ _ (blockSum_nonneg q x),
    ValueIdx.sum_idx2]
  unfold blockSum
  rw [blocks_total fun r => ∑ c : Fin 64, sq q x (ix2 r c)]
  rfl

/-! ## The reference's loss -/

/-- The reference's loss of rows laid out in three axes. -/
theorem loss_reference (q : Vec Ideal S8192x64 .f32) (a : Vec Ideal S8x1024x64 .f32) (j : S_.Idx) :
    refLoss (F := Ideal) a (shapeCast S8x1024x64 q shapeCasts_S8192x64_S8x1024x64) j
      = (∑ i : S8192x64.Idx, sq q (shapeCast S8192x64 a shapeCasts_S8x1024x64_S8192x64) i) * ((5 / 2097152 : ℝ) : EReal) := by
  have hm : meanSq (F := Ideal) a (shapeCast S8x1024x64 q shapeCasts_S8192x64_S8x1024x64) j
      = Ideal.div (∑ i : S8192x64.Idx, sq q (shapeCast S8192x64 a shapeCasts_S8x1024x64_S8192x64) i) ((524288 : ℝ) : EReal) := by
    unfold meanSq
    rw [ValueIdx.hostDivf_apply, ValueIdx.hostReduceAdd_apply, Ideal.hostReduceAdd_total _ (fun b => b.elim0)]
    refine congrArg₂ Ideal.div ?_ count_eq
    have hz : (constant (F := Ideal) S_ .f32 0x00000000#32) (Shape.Idx.first h_S_) = 0 := Ideal.ofBits_zero_f32
    erw [hz, zero_add]
    rw [← Equiv.sum_comp (Shape.reshapeEquiv shapeCasts_S8192x64_S8x1024x64)
      (sq q (shapeCast S8192x64 a shapeCasts_S8x1024x64_S8192x64))]
    have hc := shapeCast_shapeCast a shapeCasts_S8x1024x64_S8192x64 shapeCasts_S8192x64_S8x1024x64
    refine Finset.sum_congr rfl fun i _ => ?_
    have hi := congrFun hc i
    exact congrArg (fun v : EReal => (shapeCast S8x1024x64 q shapeCasts_S8192x64_S8x1024x64 i - v)
      * (shapeCast S8x1024x64 q shapeCasts_S8192x64_S8x1024x64 i - v)) hi.symm
  have hq : constant (F := Ideal) S_ .f32 0x3E800000#32 j = ((1 / 4 : ℝ) : EReal) := quarter_eq
  have he : refLoss (F := Ideal) a (shapeCast S8x1024x64 q shapeCasts_S8192x64_S8x1024x64) j
      = meanSq (F := Ideal) a (shapeCast S8x1024x64 q shapeCasts_S8192x64_S8x1024x64) j
        + constant (F := Ideal) S_ .f32 0x3E800000#32 j * meanSq (F := Ideal) a (shapeCast S8x1024x64 q shapeCasts_S8192x64_S8x1024x64) j := rfl
  rw [he, hm, hq]
  exact mean_and_quarter _

/-- The second results agree. -/
theorem result1_eq (a : Vec Ideal S8x1024x64 .f32) (e : Vec Ideal S64x8192 .f32) :
    result1 (F := Ideal) (shapeCast S8192x64 a shapeCasts_S8x1024x64_S8192x64) e = refLoss (F := Ideal) a (refRows (F := Ideal) a e) := by
  rw [refRows_eq]
  funext j
  rw [loss_reference]
  unfold result1
  exact loss_kernel _ _ _ _

end Cert.Proof.Vq

end
-- ==== Proof.Equation.lean ====
/-
  THE TWO PROGRAMS AGREE: from equal arguments, whatever they hold, the kernel program and the reference end with equal
  first results and equal second results, and with their arguments as they were.
-/
module

public import proofs.«01_k».proof.Proof.Loss

@[expose] public section

noncomputable section

namespace Cert.Proof.Vq

open Idealize.ShloMosaic Idealize.ShloMosaic.TcCoe
open Idealize.SL Idealize.SL.Sem

theorem equation : Cert.algebraic_KernelIdeal_ReferenceIdeal := fun m g m' g' _ hm =>
  ⟨fun c => result0 (F := Ideal) (xIn m c) (eIn m c), fun c => result1 (F := Ideal) (xIn m c) (eIn m c),
    (θ_run Cert.KernelIdeal.defs _ _).mono (fun _ h => h.1) (run_results (F := Ideal) m g),
    (θ_run Cert.ReferenceIdeal.defs _ _).mono (fun r h c => by
      obtain ⟨h0, h1, ha, hb⟩ := h.1 c
      refine ⟨h0.trans ?_, h1.trans ?_, ha, hb⟩
      · rw [(hm c).1, (hm c).2]
        exact (result0_eq (F := Ideal) _ _).symm
      · rw [(hm c).1, (hm c).2]
        exact (result1_eq _ _).symm) (run_reference (F := Ideal) m' g')⟩

end Cert.Proof.Vq

end
-- ==== Proof.lean ====
/-
  THE CLAIM, put together: the kernel program's frame at both float meanings, the reference's frame, and the equality of
  their two results over the extended reals. The printed program is the ideal one as it stands, so nothing is to be
  shown of the step between them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Vq.frame_kernel, Vq.frame_ideal, Vq.frame_reference, trivial, Vq.equation⟩

end Cert.Proof

end
